-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S512x2048 : Shape := ⟨2, ![512, 2048]⟩
abbrev S8x512x512 : Shape := ⟨3, ![8, 512, 512]⟩
abbrev S8x128 : Shape := ⟨2, ![8, 128]⟩
abbrev S8x8x128 : Shape := ⟨3, ![8, 8, 128]⟩
abbrev S7 : Shape := ⟨1, ![7]⟩
abbrev S_ : Shape := ⟨0, ![]⟩
abbrev S1 : Shape := ⟨1, ![1]⟩
abbrev S1x512x512 : Shape := ⟨3, ![1, 512, 512]⟩
abbrev S512x512 : Shape := ⟨2, ![512, 512]⟩
abbrev S1x512x2048 : Shape := ⟨3, ![1, 512, 2048]⟩
abbrev S1x1x1 : Shape := ⟨3, ![1, 1, 1]⟩
abbrev S1x8x128 : Shape := ⟨3, ![1, 8, 128]⟩
abbrev S1x8x8x128 : Shape := ⟨4, ![1, 8, 8, 128]⟩
abbrev S1x1x1x1 : Shape := ⟨4, ![1, 1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S512x2048, .f32⟩
  | .local _ .vmem, ⟨0, _⟩ => ⟨S4096x512, .f32⟩
  | .local _ .vmem, ⟨1, _⟩ => ⟨S4096x2048, .f32⟩
  | .local _ .vmem, ⟨2, _⟩ => ⟨S512x2048, .f32⟩
  | .local _ .vmem, ⟨3, _⟩ => ⟨S8x512x512, .f32⟩
  | .local _ .vmem, ⟨4, _⟩ => ⟨S8x128, .f32⟩
  | .local _ .vmem, ⟨5, _⟩ => ⟨S8x8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_35 : BitVec 32 := 0#32
  let c0_i32_36 : BitVec 32 := 0#32
  ![v2.toNat, 0, 0]
def k0_off2 (d0 : Dev nD) (c1_i32_29 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c1_i32_29
  let c8_i32_30 : BitVec 32 := 8#32
  let v33 : BitVec 32 := Scalar.remsi v32 c8_i32_30
  let c512_i32 : BitVec 32 := 512#32
  let v34 : BitVec 32 := Scalar.muli v33 c512_i32
  let c0_i32_37 : BitVec 32 := 0#32
  ![v34.toNat, 0]
def k0_dev8 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let v32 : BitVec 32 := Scalar.addi v2 c1_i32_29
  let c8_i32_30 : BitVec 32 := 8#32
  let v33 : BitVec 32 := Scalar.remsi v32 c8_i32_30
  let c1_i32_33 : BitVec 32 := 1#32
  let v35 : BitVec 32 := Scalar.muli v33 c1_i32_33
  let v36 : BitVec 32 := Scalar.addi c0_i32_34 v35
  v36.toNat
def k0_dev9 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v44 : BitVec 32 := Scalar.addi v2 c2_i32_38
  let c8_i32_39 : BitVec 32 := 8#32
  let v45 : BitVec 32 := Scalar.remsi v44 c8_i32_39
  let c1_i32_43 : BitVec 32 := 1#32
  let v47 : BitVec 32 := Scalar.muli v45 c1_i32_43
  let v48 : BitVec 32 := Scalar.addi c0_i32_44 v47
  v48.toNat
def k0_dev10 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_48 : BitVec 32 := 3#32
  let v56 : BitVec 32 := Scalar.addi v2 c3_i32_48
  let c8_i32_49 : BitVec 32 := 8#32
  let v57 : BitVec 32 := Scalar.remsi v56 c8_i32_49
  let c1_i32_53 : BitVec 32 := 1#32
  let v59 : BitVec 32 := Scalar.muli v57 c1_i32_53
  let v60 : BitVec 32 := Scalar.addi c0_i32_54 v59
  v60.toNat
def k0_dev11 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_58 : BitVec 32 := 4#32
  let v68 : BitVec 32 := Scalar.addi v2 c4_i32_58
  let c8_i32_59 : BitVec 32 := 8#32
  let v69 : BitVec 32 := Scalar.remsi v68 c8_i32_59
  let c1_i32_63 : BitVec 32 := 1#32
  let v71 : BitVec 32 := Scalar.muli v69 c1_i32_63
  let v72 : BitVec 32 := Scalar.addi c0_i32_64 v71
  v72.toNat
def k0_dev12 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_68 : BitVec 32 := 5#32
  let v80 : BitVec 32 := Scalar.addi v2 c5_i32_68
  let c8_i32_69 : BitVec 32 := 8#32
  let v81 : BitVec 32 := Scalar.remsi v80 c8_i32_69
  let c1_i32_73 : BitVec 32 := 1#32
  let v83 : BitVec 32 := Scalar.muli v81 c1_i32_73
  let v84 : BitVec 32 := Scalar.addi c0_i32_74 v83
  v84.toNat
def k0_dev13 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_78 : BitVec 32 := 6#32
  let v92 : BitVec 32 := Scalar.addi v2 c6_i32_78
  let c8_i32_79 : BitVec 32 := 8#32
  let v93 : BitVec 32 := Scalar.remsi v92 c8_i32_79
  let c1_i32_83 : BitVec 32 := 1#32
  let v95 : BitVec 32 := Scalar.muli v93 c1_i32_83
  let v96 : BitVec 32 := Scalar.addi c0_i32_84 v95
  v96.toNat
def k0_dev14 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_88 : BitVec 32 := 7#32
  let v104 : BitVec 32 := Scalar.addi v2 c7_i32_88
  let c8_i32_89 : BitVec 32 := 8#32
  let v105 : BitVec 32 := Scalar.remsi v104 c8_i32_89
  let c1_i32_93 : BitVec 32 := 1#32
  let v107 : BitVec 32 := Scalar.muli v105 c1_i32_93
  let v108 : BitVec 32 := Scalar.addi c0_i32_94 v107
  v108.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_98 : BitVec 32 := 512#32
  let v116 : BitVec 32 := Scalar.muli v2 c512_i32_98
  let v117 : Index := Scalar.indexCast v116
  let c0 : Index := 0#32
  ![v117.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_99 : BitVec 32 := 512#32
  let v120 : BitVec 32 := Scalar.muli v2 c512_i32_99
  let v121 : Index := Scalar.indexCast v120
  let c0_100 : Index := 0#32
  ![v121.toNat, 0]
def k0_off5 (d0 : Dev nD) (c7_i32_103 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v126 : BitVec 32 := Scalar.addi v2 c7_i32_103
  let c8_i32_104 : BitVec 32 := 8#32
  let v127 : BitVec 32 := Scalar.remsi v126 c8_i32_104
  let c0_i32_109 : BitVec 32 := 0#32
  let c0_i32_110 : BitVec 32 := 0#32
  ![v127.toNat, 0, 0]
def k0_off6 (d0 : Dev nD) (c7_i32_103 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v126 : BitVec 32 := Scalar.addi v2 c7_i32_103
  let c8_i32_104 : BitVec 32 := 8#32
  let v127 : BitVec 32 := Scalar.remsi v126 c8_i32_104
  let v137 : Index := Scalar.indexCast v127
  let c0_115 : Index := 0#32
  let c0_116 : Index := 0#32
  ![v137.toNat, 0, 0]
def k0_off7 (d0 : Dev nD) (c7_i32_103 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v126 : BitVec 32 := Scalar.addi v2 c7_i32_103
  let c8_i32_104 : BitVec 32 := 8#32
  let v127 : BitVec 32 := Scalar.remsi v126 c8_i32_104
  let c512_i32_117 : BitVec 32 := 512#32
  let v140 : BitVec 32 := Scalar.muli v127 c512_i32_117
  let v141 : Index := Scalar.indexCast v140
  let c0_118 : Index := 0#32
  ![v141.toNat, 0]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v288 : Index := Scalar.indexCast v2
  let c0_246 : Index := 0#32
  let c0_247 : Index := 0#32
  ![v288.toNat, 0, 0]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_254 : BitVec 32 := 0#32
  let c0_i32_255 : BitVec 32 := 0#32
  ![v2.toNat, 0, 0]
def k0_dev15 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_248 : BitVec 32 := 1#32
  let v292 : BitVec 32 := Scalar.addi v2 c1_i32_248
  let c8_i32_249 : BitVec 32 := 8#32
  let v293 : BitVec 32 := Scalar.remsi v292 c8_i32_249
  let c1_i32_252 : BitVec 32 := 1#32
  let v294 : BitVec 32 := Scalar.muli v293 c1_i32_252
  let v295 : BitVec 32 := Scalar.addi c0_i32_253 v294
  v295.toNat
def k0_dev16 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_256 : BitVec 32 := 2#32
  let v302 : BitVec 32 := Scalar.addi v2 c2_i32_256
  let c8_i32_257 : BitVec 32 := 8#32
  let v303 : BitVec 32 := Scalar.remsi v302 c8_i32_257
  let c1_i32_260 : BitVec 32 := 1#32
  let v304 : BitVec 32 := Scalar.muli v303 c1_i32_260
  let v305 : BitVec 32 := Scalar.addi c0_i32_261 v304
  v305.toNat
def k0_dev17 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_264 : BitVec 32 := 3#32
  let v312 : BitVec 32 := Scalar.addi v2 c3_i32_264
  let c8_i32_265 : BitVec 32 := 8#32
  let v313 : BitVec 32 := Scalar.remsi v312 c8_i32_265
  let c1_i32_268 : BitVec 32 := 1#32
  let v314 : BitVec 32 := Scalar.muli v313 c1_i32_268
  let v315 : BitVec 32 := Scalar.addi c0_i32_269 v314
  v315.toNat
def k0_dev18 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_272 : BitVec 32 := 4#32
  let v322 : BitVec 32 := Scalar.addi v2 c4_i32_272
  let c8_i32_273 : BitVec 32 := 8#32
  let v323 : BitVec 32 := Scalar.remsi v322 c8_i32_273
  let c1_i32_276 : BitVec 32 := 1#32
  let v324 : BitVec 32 := Scalar.muli v323 c1_i32_276
  let v325 : BitVec 32 := Scalar.addi c0_i32_277 v324
  v325.toNat
def k0_dev19 (d0 : Dev nD) : Nat :=
  let c0_i32_285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_280 : BitVec 32 := 5#32
  let v332 : BitVec 32 := Scalar.addi v2 c5_i32_280
  let c8_i32_281 : BitVec 32 := 8#32
  let v333 : BitVec 32 := Scalar.remsi v332 c8_i32_281
  let c1_i32_284 : BitVec 32 := 1#32
  let v334 : BitVec 32 := Scalar.muli v333 c1_i32_284
  let v335 : BitVec 32 := Scalar.addi c0_i32_285 v334
  v335.toNat
def k0_dev20 (d0 : Dev nD) : Nat :=
  let c0_i32_293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_288 : BitVec 32 := 6#32
  let v342 : BitVec 32 := Scalar.addi v2 c6_i32_288
  let c8_i32_289 : BitVec 32 := 8#32
  let v343 : BitVec 32 := Scalar.remsi v342 c8_i32_289
  let c1_i32_292 : BitVec 32 := 1#32
  let v344 : BitVec 32 := Scalar.muli v343 c1_i32_292
  let v345 : BitVec 32 := Scalar.addi c0_i32_293 v344
  v345.toNat
def k0_dev21 (d0 : Dev nD) : Nat :=
  let c0_i32_301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_296 : BitVec 32 := 7#32
  let v352 : BitVec 32 := Scalar.addi v2 c7_i32_296
  let c8_i32_297 : BitVec 32 := 8#32
  let v353 : BitVec 32 := Scalar.remsi v352 c8_i32_297
  let c1_i32_300 : BitVec 32 := 1#32
  let v354 : BitVec 32 := Scalar.muli v353 c1_i32_300
  let v355 : BitVec 32 := Scalar.addi c0_i32_301 v354
  v355.toNat
def k0_off10 (d0 : Dev nD) (c7_i32_304 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v362 : BitVec 32 := Scalar.addi v2 c7_i32_304
  let c8_i32_305 : BitVec 32 := 8#32
  let v363 : BitVec 32 := Scalar.remsi v362 c8_i32_305
  let c0_i32_310 : BitVec 32 := 0#32
  let c0_i32_311 : BitVec 32 := 0#32
  ![v363.toNat, 0, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 13
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S4096x2048, .f32⟩
  | .local _ .vmem, ⟨0, _⟩ => ⟨S4096x2048, .f32⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Cells.lean ====
/- The ring of eight devices, the semaphore cells of the kernel, the pieces its buffers are cut into,
   and the contents those pieces hold in a run. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ValueLayout
public import Idealize.ShloMosaic.Lib.Tactic

@[expose] public section

noncomputable section

namespace Cert.AllToAll

open Cert.KernelIdeal Cert.KernelIdeal.Gen
open Idealize.ShloMosaic Idealize.ShloMosaic.TcCoe
open Idealize.ShloMosaic.ValueIdx (ix2 ix3 eq_ix2 eq_ix3)
open Idealize.SL Idealize.SL.Sem

variable {F : FTy → Type} [FloatOps F]

/-! ## The ring -/

/-- The device `k + 1` places after `c`. -/
def rot (k : Fin 7) (c : Dev nD) : Dev nD := ⟨(c.val + k.val + 1) % 8, Nat.mod_lt _ (by norm_num)⟩
/-- The device `k + 1` places before `c`. -/
def rotB (k : Fin 7) (c : Dev nD) : Dev nD := ⟨(c.val + (7 - k.val)) % 8, Nat.mod_lt _ (by norm_num)⟩

theorem rot_val (k : Fin 7) (c : Dev nD) : (rot k c).val = (c.val + k.val + 1) % 8 := rfl
theorem rotB_val (k : Fin 7) (c : Dev nD) : (rotB k c).val = (c.val + (7 - k.val)) % 8 := rfl

theorem rotB_rot (k : Fin 7) (c : Dev nD) : rotB k (rot k c) = c := by
  apply Fin.ext
  have h1 : c.val < 8 := c.isLt
  have h2 := k.isLt
  rw [rotB_val, rot_val]
  omega
theorem rot_rotB (k : Fin 7) (c : Dev nD) : rot k (rotB k c) = c := by
  apply Fin.ext
  have h1 : c.val < 8 := c.isLt
  have h2 := k.isLt
  rw [rot_val, rotB_val]
  omega
/-- Going `k + 1` places on is a bijection of the devices. -/
def turn (k : Fin 7) : Dev nD ≃ Dev nD := ⟨rot k, rotB k, rotB_rot k, rot_rotB k⟩

/-- `k + 1` places before is `7 - k` places after. -/
theorem rotB_eq_rot_rev (k : Fin 7) (c : Dev nD) : rotB k c = rot (Fin.rev k) c := by
  apply Fin.ext
  have h2 := k.isLt
  rw [rotB_val, rot_val, Fin.val_rev]
  congr 1
  omega
theorem rotB_rev (k : Fin 7) (c : Dev nD) : rotB (Fin.rev k) c = rot k c := by
  rw [rotB_eq_rot_rev, Fin.rev_rev]
theorem rot_ne (k : Fin 7) (c : Dev nD) : rot k c ≠ c := by
  intro h
  have h1 := congrArg Fin.val h
  have h2 : c.val < 8 := c.isLt
  have h3 := k.isLt
  rw [rot_val] at h1
  omega
/-- Every other device is some number of places after `c`, and one number only. -/
theorem rot_inj {k k' : Fin 7} {c : Dev nD} (h : rot k c = rot k' c) : k = k' := by
  have h1 := congrArg Fin.val h
  have h2 : c.val < 8 := c.isLt
  have h3 := k.isLt
  have h4 := k'.isLt
  rw [rot_val, rot_val] at h1
  apply Fin.ext
  omega
/-- The places away from `c` at which the other device `d` is found. -/
def gap (c d : Dev nD) : Option (Fin 7) :=
  if h : (d.val + 8 - c.val) % 8 = 0 then none else some ⟨(d.val + 8 - c.val) % 8 - 1, by omega⟩
/-- The devices, seen from `c`: itself, and the seven after it. -/
def seen (c : Dev nD) : Option (Fin 7) ≃ Dev nD where
  toFun o := o.elim c fun k => rot k c
  invFun d := gap c d
  left_inv o := by revert c o; decide
  right_inv d := by revert c d; decide

/-! ## The semaphores -/

/-- The barrier semaphore. -/
abbrev barS : Sem sig := (SemArray.scalar (sig.barrier 0 rfl) : Sems sig S_).sem
/-- The kernel's four arrays of seven transfer semaphores: sends of `x` blocks (0) and their arrivals (1), sends of local
    maxima (2) and their arrivals (3). -/
def qsem (a : Fin 4) (k : Fin 7) : DmaSem sig := ⟨3 + 7 * a.val + k.val, by
  show 3 + 7 * a.val + k.val < 31
  have := a.isLt
  have := k.isLt
  omega⟩
/-- The kernel's cells on one device: the barrier, and the transfer semaphores. -/
abbrev CI : Type := Option (Fin 4 × Fin 7)
def csem : CI → SemLoc sig
  | none => .reg barS
  | some p => .dma (qsem p.1 p.2)
/-- Which of the kernel's cells a semaphore is. -/
def who : SemLoc sig → Option CI
  | .reg s => if s = barS then some none else none
  | .dma q => if h : 3 ≤ q.val then some (some (⟨(q.val - 3) / 7, by
      have : q.val < 31 := q.isLt
      omega⟩, ⟨(q.val - 3) % 7, Nat.mod_lt _ (by norm_num)⟩)) else none

theorem who_bar : who (.reg barS) = some none := by simp [who]
theorem who_dma (a : Fin 4) (k : Fin 7) : who (.dma (qsem a k)) = some (some (a, k)) := by
  have h1 := a.isLt
  have h2 := k.isLt
  have hv : (qsem a k).val = 3 + 7 * a.val + k.val := rfl
  unfold who
  simp only []
  rw [dif_pos (by rw [hv]; omega)]
  congr 3
  · apply Fin.ext
    show ((qsem a k).val - 3) / 7 = a.val
    rw [hv]
    omega
  · apply Fin.ext
    show ((qsem a k).val - 3) % 7 = k.val
    rw [hv]
    omega
theorem who_csem (i : CI) : who (csem i) = some i := by
  rcases i with _ | ⟨a, k⟩
  · exact who_bar
  · exact who_dma a k
theorem csem_injective : Function.Injective csem := fun i j h => by
  have := congrArg who h
  rw [who_csem, who_csem] at this
  exact Option.some.inj this

/-- The cell of device `p.1` that `p.2` names. -/
abbrev kcell (p : Dev nD × CI) : GSem nD τ sig := ((p.1 : Thread nD τ), csem p.2)
abbrev barC (c : Dev nD) : GSem nD τ sig := kcell (c, none)
abbrev dmaC (a : Fin 4) (k : Fin 7) (c : Dev nD) : GSem nD τ sig := kcell (c, some (a, k))

theorem kcell_injective : Function.Injective kcell := fun p q h => by
  have h1 := congrArg (fun g : GSem nD τ sig => g.1.1) h
  have h2 := csem_injective (congrArg (fun g : GSem nD τ sig => g.2) h)
  exact Prod.ext h1 h2

/-! ## The pieces of the buffers -/

theorem xg_inb (d : Dev nD) : ∀ a, (![d.val, 0, 0] : Fin 3 → ℕ) a + S1x512x512.size a ≤ S8x512x512.size a := by
  revert d; decide
theorem rx_inb (d : Dev nD) : ∀ a, (![d.val, 0, 0] : Fin 3 → ℕ) a + S1x8x128.size a ≤ S8x8x128.size a := by
  revert d; decide
theorem x_inb (d : Dev nD) : ∀ a, (![512 * d.val, 0] : Fin 2 → ℕ) a + S512x512.size a ≤ S4096x512.size a := by
  revert d; decide
theorem w_inb (d : Dev nD) : ∀ a, (![512 * d.val, 0] : Fin 2 → ℕ) a + S512x2048.size a ≤ S4096x2048.size a := by
  revert d; decide

/-- Slot `d` of the landing buffer for `x` blocks. -/
abbrev xgR (d : Dev nD) : Rect S8x512x512 := Rect.unit (s := S8x512x512) ![d.val, 0, 0] S1x512x512.size (xg_inb d)
/-- Slot `d` of the landing buffer for local maxima. -/
abbrev rxR (d : Dev nD) : Rect S8x8x128 := Rect.unit (s := S8x8x128) ![d.val, 0, 0] S1x8x128.size (rx_inb d)
/-- Rows `512 d … 512 d + 511` of a device's columns of `x`. -/
abbrev xR (d : Dev nD) : Rect S4096x512 := Rect.unit (s := S4096x512) ![512 * d.val, 0] S512x512.size (x_inb d)
/-- Rows `512 d … 512 d + 511` of `w`. -/
abbrev wR (d : Dev nD) : Rect S4096x2048 := Rect.unit (s := S4096x2048) ![512 * d.val, 0] S512x2048.size (w_inb d)

abbrev xgI (d : Dev nD) : Finset S8x512x512.Idx := (xgR d).set
abbrev rxI (d : Dev nD) : Finset S8x8x128.Idx := (rxR d).set
abbrev xI (d : Dev nD) : Finset S4096x512.Idx := (xR d).set

theorem xg_disj (b b' : Dev nD) (h : b ≠ b') : Disjoint (xgI b) (xgI b') :=
  Ring.lead_disjoint (s := S8x512x512) (NB := 8) 0 1 (fun d => ![d.val, 0, 0]) S1x512x512.size xg_inb (fun d => (Nat.one_mul _).symm) rfl b b' h
theorem xg_cover : Finset.univ.biUnion xgI = Finset.univ :=
  Ring.lead_cover (s := S8x512x512) (NB := 8) 0 1 (fun d => ![d.val, 0, 0]) S1x512x512.size xg_inb (fun d => (Nat.one_mul _).symm)
    (fun d a h => by fin_cases a <;> first | exact absurd rfl h | rfl) rfl (by decide) rfl
theorem rx_disj (b b' : Dev nD) (h : b ≠ b') : Disjoint (rxI b) (rxI b') :=
  Ring.lead_disjoint (s := S8x8x128) (NB := 8) 0 1 (fun d => ![d.val, 0, 0]) S1x8x128.size rx_inb (fun d => (Nat.one_mul _).symm) rfl b b' h
theorem rx_cover : Finset.univ.biUnion rxI = Finset.univ :=
  Ring.lead_cover (s := S8x8x128) (NB := 8) 0 1 (fun d => ![d.val, 0, 0]) S1x8x128.size rx_inb (fun d => (Nat.one_mul _).symm)
    (fun d a h => by fin_cases a <;> first | exact absurd rfl h | rfl) rfl (by decide) rfl
theorem x_disj (b b' : Dev nD) (h : b ≠ b') : Disjoint (xI b) (xI b') :=
  Ring.lead_disjoint (s := S4096x512) (NB := 8) 0 512 (fun d => ![512 * d.val, 0]) S512x512.size x_inb (fun d => rfl) rfl b b' h
theorem x_cover : Finset.univ.biUnion xI = Finset.univ :=
  Ring.lead_cover (s := S4096x512) (NB := 8) 0 512 (fun d => ![512 * d.val, 0]) S512x512.size x_inb (fun d => rfl)
    (fun d a h => by fin_cases a <;> first | exact absurd rfl h | rfl) rfl (by decide) rfl

/-! ## The contents -/

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- Device `c`'s columns of `x`. -/
def xOf (c : Dev nD) : S4096x512.Idx → Elt F .f32 := m ((c : Thread nD τ).loc main_arg0)
/-- Device `c`'s copy of `w`. -/
def wOf (c : Dev nD) : S4096x2048.Idx → Elt F .f32 := m ((c : Thread nD τ).loc main_arg1)

/-- What device `c`'s landing buffer holds where the blocks have landed: slot `s` is rows `512 c …` of device `s`'s columns. -/
def xgAll (c : Dev nD) : S8x512x512.Idx → Elt F .f32 := fun i =>
  xOf m (i 0) ((xR c).emb (ix2 (i 1 : Fin 512) (i 2 : Fin 512)))
/-- Slot `s` of it, as a load reads it. -/
def xSlot (c s : Dev nD) : Vec F S1x512x512 .f32 := fun y => xgAll m c ((xgR s).emb y)
/-- Rows `512 d …` of device `c`'s own columns. -/
def xBlk (c d : Dev nD) : Vec F S512x512 .f32 := fun y => xOf m c ((xR d).emb y)
/-- Rows `512 s …` of device `c`'s copy of `w`. -/
def wBlk (c s : Dev nD) : Vec F S512x2048 .f32 := fun y => wOf m c ((wR s).emb y)

/-- Device `c`'s accumulator after its own block and the blocks of the `n` devices before it. -/
def acc (c : Dev nD) : ℕ → Vec F S512x2048 .f32
  | 0 => k0_pay2 (xBlk m c c) (wBlk m c c)
  | n + 1 => if h : n < 7 then k0_pay4 (acc c n) (xSlot m c (rotB ⟨n, h⟩ c)) (wBlk m c (rotB ⟨n, h⟩ c)) else acc c n
theorem acc_succ (c : Dev nD) (k : Fin 7) :
    acc m c (k.val + 1) = k0_pay4 (acc m c k.val) (xSlot m c (rotB k c)) (wBlk m c (rotB k c)) := by
  rw [acc, dif_pos k.isLt]

/-- Device `c`'s block of the product, negative entries replaced by zero. -/
def reluOf (c : Dev nD) : Vec F S512x2048 .f32 := k0_pay15 (acc m c 7)
/-- Device `c`'s largest entry, in every element of a tile. -/
def amaxOf (c : Dev nD) : Vec F S8x128 .f32 := k0_pay16 (acc m c 7)
/-- Every device's largest entry: what the landing buffer for maxima holds on each device once all have landed. -/
def rxAll : S8x8x128.Idx → Elt F .f32 := fun i => amaxOf m (i 0) (ix2 (i 1 : Fin 8) (i 2 : Fin 128))
/-- The kernel's result on device `c`. -/
def outOf (c : Dev nD) : Vec F S512x2048 .f32 := k0_pay1 (k0_pay18 (rxAll m)) (reluOf m c)

end Cert.AllToAll
-- ==== Proof.Schedule.lean ====
/- Who pays what to whom: one round at every semaphore cell, and what each payment hands over. -/
module

public import proofs.«01_k».proof.Proof.Cells
public import Idealize.ShloMosaic.Lib.ShareLeaves

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the staging library's, and rounds whose payments are numbered by places on the ring -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Pieces held -/

/-- Device `p` holds slot `s` of its landing buffer for `x` blocks. -/
def xgPts (p s : Dev nD) (f : S8x512x512.Idx → Elt F .f32) : sProp 𝕄 :=
  ((p : Thread nD τ).loc cc0_scratch0) ↦[xgI s]{fullShare} f
/-- Device `p` holds slot `s` of its landing buffer for maxima. -/
def rxPts (p s : Dev nD) (f : S8x8x128.Idx → Elt F .f32) : sProp 𝕄 :=
  ((p : Thread nD τ).loc cc0_scratch2) ↦[rxI s]{fullShare} f
/-- Device `p` holds rows `512 d …` of its staged columns of `x`. -/
def xPts (p d : Dev nD) (f : S4096x512.Idx → Elt F .f32) : sProp 𝕄 :=
  ((p : Thread nD τ).loc cc0_stg0_0) ↦[xI d]{fullShare} f
/-- Device `p` holds the `k`-th of eight equal shares of its tile of the local maximum. -/
def txPts (p : Dev nD) (k : Fin 8) (f : S8x128.Idx → Elt F .f32) : sProp 𝕄 :=
  ((p : Thread nD τ).loc cc0_scratch1) ↦[Finset.univ]{ShareLeaves.leaf 3 fullShare k} f

omit [FloatOps F] in
instance xgPts_storable (p s : Dev nD) (f) : BI.Storable (upEmb : UEmb _ 𝕄) (xgPts (F := F) p s f) := by
  unfold xgPts; infer_instance
omit [FloatOps F] in
instance rxPts_storable (p s : Dev nD) (f) : BI.Storable (upEmb : UEmb _ 𝕄) (rxPts (F := F) p s f) := by
  unfold rxPts; infer_instance
omit [FloatOps F] in
instance xPts_storable (p d : Dev nD) (f) : BI.Storable (upEmb : UEmb _ 𝕄) (xPts (F := F) p d f) := by
  unfold xPts; infer_instance
omit [FloatOps F] in
instance txPts_storable (p : Dev nD) (k : Fin 8) (f) : BI.Storable (upEmb : UEmb _ 𝕄) (txPts (F := F) p k f) := by
  unfold txPts; infer_instance

/-! ## The amounts -/

abbrev xgM (d : Dev nD) : Memref sig .tc .vmem S512x512 .f32 :=
  ((Memref.whole cc0_scratch0).slice (xgR d) (fun _ => rfl)).squeeze S512x512 squeezes_S1x512x512_S512x512
abbrev rxM (d : Dev nD) : Memref sig .tc .vmem S8x128 .f32 :=
  ((Memref.whole cc0_scratch2).slice (rxR d) (fun _ => rfl)).squeeze S8x128 squeezes_S1x8x128_S8x128

/-- The credit of one block of `x`, and of one tile. -/
def NX : ℕ := (xgM 0).view.dmaCredit
def NA : ℕ := (rxM 0).view.dmaCredit
theorem NX_pos : 0 < NX := View.dmaCredit_pos _ (by decide)
theorem NA_pos : 0 < NA := View.dmaCredit_pos _ (by decide)

/-- The credit of a transfer on one of the four arrays of semaphores. -/
def amt (a : Fin 4) : ℕ := if a.val < 2 then NX else NA
theorem amt_pos (a : Fin 4) : 0 < amt a := by
  unfold amt
  split
  · exact NX_pos
  · exact NA_pos

/-! ## The schedule -/

section Schedule
variable (m : (ℓ : Loc nD τ sig) → Buf (Elt F) ℓ)

/-- What the device `k + 1` places before `c` hands `c` at the barrier: its two slots numbered `c`. -/
def barPay (c : Dev nD) (k : Fin 7) : sProp 𝕄 :=
  iprop((∃ f, xgPts (rotB k c) c f) ∗ (∃ f, rxPts (rotB k c) c f))
/-- What a completed transfer hands the owner of the cell: a send, the source back; an arrival, the filled slot. -/
def dmaPay (a : Fin 4) (k : Fin 7) (c : Dev nD) : sProp 𝕄 :=
  match a with
  | 0 => xPts c (rot k c) (xOf m c)
  | 1 => xgPts c (rotB k c) (xgAll m c)
  | 2 => txPts c (Fin.castSucc k) (amaxOf m c)
  | 3 => rxPts c (rotB k c) (rxAll m)

omit [FloatOps F] in
instance barPay_storable (c : Dev nD) (k : Fin 7) : BI.Storable (upEmb : UEmb _ 𝕄) (barPay (F := F) c k) := by
  unfold barPay; infer_instance
instance dmaPay_storable (a : Fin 4) (k : Fin 7) (c : Dev nD) : BI.Storable (upEmb : UEmb _ 𝕄) (dmaPay m a k c) := by
  fin_cases a
  · exact xPts_storable _ _ _
  · exact xgPts_storable _ _ _
  · exact txPts_storable _ _ _
  · exact rxPts_storable _ _ _

/-- The payments of a kernel cell: at a barrier one per other device; at a transfer's cell one. -/
def dutiesOf : Option CI → Finset (Fin 7)
  | some none => Finset.univ
  | some (some _) => {0}
  | none => ∅
def amountOf : Option CI → ℕ
  | some (some p) => amt p.1
  | _ => 1
def payOf (c : Dev nD) : Option CI → Fin 7 → sProp 𝕄
  | some none, k => barPay c k
  | some (some p), _ => dmaPay m p.1 p.2 c
  | none, _ => iprop(emp)

/-- The whole protocol: one round. -/
def rd : Rounds.Schedule (GSem nD τ sig) (Fin 7) 𝕄 where
  duties g r := if r = 0 ∧ g.1.2 = .tc then dutiesOf (who g.2) else ∅
  amount g _ _ := amountOf (who g.2)
  payload g _ k := payOf m g.1.1 (who g.2) k
  amount_pos g r d h := by
    rcases who g.2 with _ | (_ | p)
    · exact Nat.one_pos
    · exact Nat.one_pos
    · exact amt_pos _

instance rd_storable (g : GSem nD τ sig) (r : ℕ) (d : Fin 7) :
    BI.Storable (upEmb : UEmb _ 𝕄) ((rd (F := F) m).payload g r d) := by
  show BI.Storable upEmb (payOf m g.1.1 (who g.2) d)
  rcases who g.2 with _ | (_ | p)
  · show BI.Storable upEmb (iprop(emp) : sProp 𝕄)
    infer_instance
  · exact barPay_storable _ _
  · exact dmaPay_storable _ _ _ _

/-! ### The schedule read at the kernel's cells -/

theorem duties_eq (c : Dev nD) (i : CI) : (rd (F := F) m).duties (kcell (c, i)) 0 = dutiesOf (some i) := by
  show (if 0 = 0 ∧ (Proc.tc : Proc τ) = .tc then dutiesOf (who (csem i)) else ∅) = _
  rw [if_pos ⟨rfl, rfl⟩, who_csem]
theorem amount_eq (c : Dev nD) (i : CI) (k : Fin 7) : (rd (F := F) m).amount (kcell (c, i)) 0 k = amountOf (some i) := by
  show amountOf (who (csem i)) = _
  rw [who_csem]
theorem payload_eq (c : Dev nD) (i : CI) (k : Fin 7) : (rd (F := F) m).payload (kcell (c, i)) 0 k = payOf m c (some i) k := by
  show payOf m c (who (csem i)) k = _
  rw [who_csem]
theorem duties_later (g : GSem nD τ sig) : ∀ r, 1 ≤ r → (rd (F := F) m).duties g r = ∅ :=
  fun r hr => if_neg fun h => by omega
theorem expect_bar (c : Dev nD) : (rd (F := F) m).expect (barC c) 0 = 7 := by
  unfold Schedule.expect Schedule.amountOf
  rw [duties_eq, Finset.sum_congr rfl fun k _ => amount_eq m c none k]
  rfl
theorem expect_dma (a : Fin 4) (k : Fin 7) (c : Dev nD) : (rd (F := F) m).expect (dmaC a k c) 0 = amt a := by
  unfold Schedule.expect Schedule.amountOf
  rw [duties_eq, Finset.sum_congr rfl fun j _ => amount_eq m c (some (a, k)) j]
  exact Finset.sum_singleton _ _
/-- All a barrier cell's payments, none taken yet. -/
theorem rest_bar (c : Dev nD) :
    bigSep ((rd (F := F) m).duties (barC c) 0 \ ∅) (fun k => (rd (F := F) m).payload (barC c) 0 k)
      = bigSep Finset.univ fun k => barPay c k := by
  rw [Finset.sdiff_empty, duties_eq]
  exact bigSep_congr fun k _ => payload_eq m c none k
/-- All a transfer cell's payments, none taken yet. -/
theorem rest_dma (a : Fin 4) (k : Fin 7) (c : Dev nD) :
    bigSep ((rd (F := F) m).duties (dmaC a k c) 0 \ ∅) (fun j => (rd (F := F) m).payload (dmaC a k c) 0 j) = dmaPay m a k c := by
  rw [Finset.sdiff_empty, duties_eq]
  show bigSep {0} _ = _
  rw [bigSep_singleton, payload_eq]
  rfl

end Schedule

/-! ## Sums over the places still to come and the places done -/

/-- `B` at the places from `n` on. -/
def todo (n : ℕ) (B : Fin 7 → sProp 𝕄) : sProp 𝕄 := bigSep (Finset.univ.filter fun j : Fin 7 => n ≤ j.val) B
/-- `A` at the places before `n`. -/
def past (n : ℕ) (A : Fin 7 → sProp 𝕄) : sProp 𝕄 := bigSep (Finset.univ.filter fun j : Fin 7 => j.val < n) A

theorem todo_set (k : Fin 7) : (Finset.univ.filter fun j : Fin 7 => k.val ≤ j.val) = insert k (Finset.univ.filter fun j : Fin 7 => k.val + 1 ≤ j.val) := by
  revert k; decide
theorem past_set (k : Fin 7) : (Finset.univ.filter fun j : Fin 7 => j.val < k.val + 1) = insert k (Finset.univ.filter fun j : Fin 7 => j.val < k.val) := by
  revert k; decide

omit [FloatOps F] in
theorem todo_zero (B : Fin 7 → sProp 𝕄) : todo (F := F) 0 B = bigSep Finset.univ B := by
  unfold todo; rw [Finset.filter_true_of_mem fun j _ => Nat.zero_le _]
omit [FloatOps F] in
theorem todo_step (k : Fin 7) (B : Fin 7 → sProp 𝕄) : todo (F := F) k.val B = iprop(B k ∗ todo (k.val + 1) B) := by
  unfold todo
  rw [todo_set, bigSep_insert (by simp)]
  rfl
omit [FloatOps F] in
theorem todo_end (B : Fin 7 → sProp 𝕄) : todo (F := F) 7 B = iprop(emp) := by
  unfold todo
  rw [Finset.filter_false_of_mem fun j _ => by have := j.isLt; omega, bigSep_empty]
  rfl
omit [FloatOps F] in
theorem past_zero (A : Fin 7 → sProp 𝕄) : past (F := F) 0 A = iprop(emp) := by
  unfold past
  rw [Finset.filter_false_of_mem fun j _ => by omega, bigSep_empty]
  rfl
omit [FloatOps F] in
theorem past_step (k : Fin 7) (A : Fin 7 → sProp 𝕄) : past (F := F) (k.val + 1) A = iprop(A k ∗ past k.val A) := by
  unfold past
  rw [past_set, bigSep_insert (by simp)]
  rfl
omit [FloatOps F] in
theorem past_end (A : Fin 7 → sProp 𝕄) : past (F := F) 7 A = bigSep Finset.univ A := by
  unfold past; rw [Finset.filter_true_of_mem fun j _ => j.isLt]

/-- A family over a type and one more element. -/
theorem bigSep_option {I : Type} [Fintype I] [DecidableEq I] (Φ : Option I → sProp 𝕄) :
    (bigSep Finset.univ Φ : sProp 𝕄) = iprop(Φ none ∗ bigSep Finset.univ fun i => Φ (some i)) := by
  rw [show (Finset.univ : Finset (Option I)) = insert none (Finset.univ.map Function.Embedding.some) by
    ext o; rcases o with _ | i <;> simp, bigSep_insert (by simp), bigSep_map]
  rfl

/-- A family over the devices, told off from `c`: its own, and those of the seven after it; or of the seven before it. -/
theorem by_seen (c : Dev nD) (Φ : Dev nD → sProp 𝕄) :
    (bigSep Finset.univ Φ : sProp 𝕄) = iprop(Φ c ∗ bigSep Finset.univ fun k : Fin 7 => Φ (rot k c)) := by
  rw [bigSep_univ_equiv (seen c), bigSep_option]
  rfl
theorem by_seenB (c : Dev nD) (Φ : Dev nD → sProp 𝕄) :
    (bigSep Finset.univ Φ : sProp 𝕄) = iprop(Φ c ∗ bigSep Finset.univ fun k : Fin 7 => Φ (rotB k c)) := by
  rw [by_seen c, bigSep_univ_equiv Fin.revPerm (fun k : Fin 7 => Φ (rot k c))]
  have e : ∀ k : Fin 7, Φ (rot (Fin.revPerm k) c) = Φ (rotB k c) := fun k => by rw [rotB_eq_rot_rev]; rfl
  rw [bigSep_congr fun k _ => e k]

/-! ## What is owed, and the levels -/

abbrev Owed : Type := CellTallies nD τ sig Unit

/-- The barrier units device `c` still owes from place `n` on. -/
def oweB (c : Dev nD) (n : ℕ) : Owed := ∑ j ∈ Finset.univ.filter (fun j : Fin 7 => n ≤ j.val), tallyAt (barC (rot j c)) () 1
/-- The arrivals on array `a` device `c` still owes from place `n` on. -/
def oweD (a : Fin 4) (c : Dev nD) (n : ℕ) : Owed := ∑ j ∈ Finset.univ.filter (fun j : Fin 7 => n ≤ j.val), tallyAt (dmaC a j (rot j c)) () (amt a)

theorem oweB_step (c : Dev nD) (k : Fin 7) : oweB c k.val = oweB c (k.val + 1) + tallyAt (barC (rot k c)) () 1 := by
  unfold oweB
  rw [todo_set, Finset.sum_insert (by simp), add_comm]
theorem oweB_end (c : Dev nD) : oweB c 7 = 0 := by
  unfold oweB
  rw [Finset.filter_false_of_mem fun j _ => by have := j.isLt; omega, Finset.sum_empty]
theorem oweD_step (a : Fin 4) (c : Dev nD) (k : Fin 7) :
    oweD a c k.val = oweD a c (k.val + 1) + tallyAt (dmaC a k (rot k c)) () (amt a) := by
  unfold oweD
  rw [todo_set, Finset.sum_insert (by simp), add_comm]
theorem oweD_end (a : Fin 4) (c : Dev nD) : oweD a c 7 = 0 := by
  unfold oweD
  rw [Finset.filter_false_of_mem fun j _ => by have := j.isLt; omega, Finset.sum_empty]

/-- What device `c` owes with `i` signals, `j` blocks and `l` tiles sent. -/
def owe (c : Dev nD) (i j l : ℕ) : Owed := oweD 3 c l + oweD 1 c j + oweB c i

/-- The level of a semaphore: a barrier 1, an arriving block 2, an arriving tile 3, everything else 0. -/
def lvl : Option CI → ℕ
  | some none => 1
  | some (some p) => if p.1 = 1 then 2 else if p.1 = 3 then 3 else 0
  | none => 0
def lv (g : GSem nD τ sig) (_ : Unit) : ℕ := lvl (who g.2)
def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (i : CI) (u : Unit) : lv (kcell (c, i)) u = lvl (some i) := by
  show lvl (who (csem i)) = _
  rw [who_csem]

theorem sum_tally_pos {S : Finset (Fin 7)} {f : Fin 7 → GSem nD τ sig} {n : ℕ} {g : GSem nD τ sig} {u : Unit}
    (h : 0 < (∑ j ∈ S, tallyAt (f j) () n : Owed) g u) : ∃ j ∈ S, g = f j := by
  induction S using Finset.induction_on with
  | empty => exact absurd h (Nat.lt_irrefl 0)
  | insert a s ha ih =>
    rw [Finset.sum_insert ha, Pi.add_apply, Finsupp.add_apply] at h
    rcases Nat.eq_zero_or_pos ((tallyAt (f a) () n : Owed) g u) with h0 | h0
    · rw [h0, Nat.zero_add] at h
      obtain ⟨j, hj, he⟩ := ih h
      exact ⟨j, Finset.mem_insert_of_mem hj, he⟩
    · rw [tallyAt_apply] at h0
      by_cases hg : g = f a ∧ u = ()
      · exact ⟨a, Finset.mem_insert_self _ _, hg.1⟩
      · rw [if_neg hg] at h0
        exact absurd h0 (Nat.lt_irrefl 0)

/-- The cells at which device `c` owes something: arriving tiles; arriving blocks unless all are sent; barriers unless all are signalled. -/
theorem owe_pos {c : Dev nD} {i j l : ℕ} {g : GSem nD τ sig} {u : Unit} (h : 0 < owe c i j l g u) :
    (∃ k : Fin 7, l ≤ k.val ∧ g = dmaC 3 k (rot k c)) ∨ (∃ k : Fin 7, j ≤ k.val ∧ g = dmaC 1 k (rot k c))
      ∨ (∃ k : Fin 7, i ≤ k.val ∧ g = barC (rot k c)) := by
  unfold owe at h
  rw [Pi.add_apply, Finsupp.add_apply, Pi.add_apply, Finsupp.add_apply] at h
  rcases Nat.eq_zero_or_pos (oweD 3 c l g u) with h3 | h3
  · rcases Nat.eq_zero_or_pos (oweD 1 c j g u) with h1 | h1
    · rw [h3, h1, Nat.zero_add] at h
      obtain ⟨k, hk, he⟩ := sum_tally_pos h
      exact .inr (.inr ⟨k, (Finset.mem_filter.mp hk).2, he⟩)
    · obtain ⟨k, hk, he⟩ := sum_tally_pos h1
      exact .inr (.inl ⟨k, (Finset.mem_filter.mp hk).2, he⟩)
  · obtain ⟨k, hk, he⟩ := sum_tally_pos h3
    exact .inl ⟨k, (Finset.mem_filter.mp hk).2, he⟩

omit [FloatOps F] in
/-- A wait on a semaphore below every cell still owed is allowed. -/
theorem mayWait_of (c : Dev nD) (sm : SemLoc sig) (n i j l : ℕ) (hsm : lvl (who sm) ≤ n)
    (h3 : l < 7 → n < 3) (h2 : j < 7 → n < 2) (h1 : i < 7 → n < 1) :
    (levAts L lv : sProp 𝕄) ⊢ MayWait (c : Thread nD τ) sm () (owe c i j l) :=
  MayOwe.of_cut (L := L) (lev := lv) n
    (fun p hp => by rw [Finset.mem_singleton.mp hp, L_tc]; exact Finset.mem_singleton_self _)
    (fun g u hg => by
      rcases owe_pos hg with ⟨k, _, rfl⟩ | ⟨k, _, rfl⟩ | ⟨k, _, rfl⟩ <;> exact Finset.mem_singleton_self _)
    (fun p hp => by rw [Finset.mem_singleton.mp hp]; exact hsm)
    (fun g u hg => by
      rcases owe_pos hg with ⟨k, hk, rfl⟩ | ⟨k, hk, rfl⟩ | ⟨k, hk, rfl⟩
      · rw [lv_kcell]; exact h3 (lt_of_le_of_lt hk k.isLt)
      · rw [lv_kcell]; exact h2 (lt_of_le_of_lt hk k.isLt)
      · rw [lv_kcell]; exact h1 (lt_of_le_of_lt hk k.isLt))

end Cert.AllToAll
-- ==== Proof.Steps.lean ====
/- The kernel's effects, one rule per kind: a signal, the barrier wait, a transfer of a block or of a tile, a wait on a
   transfer, each at any of the seven places. -/
module

public import proofs.«01_k».proof.Proof.Schedule

@[expose] public section

noncomputable section

namespace Cert.AllToAll

open Cert.KernelIdeal Cert.KernelIdeal.Gen
open Idealize.ShloMosaic Idealize.ShloMosaic.TcCoe
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none
/-- The weakest precondition of a program on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (K : Dev nD × CI → ℕ)

/-! ## What every device knows -/

/-- Every kernel cell's invariant, and that every cell has reached round 0. -/
def records : sProp 𝕄 :=
  iprop((bigSep Finset.univ fun p : Dev nD × CI => cellInv ER (rd m) (K p) (kcell p))
    ∗ bigSep Finset.univ fun p : Dev nD × CI => reached ER (kcell p) 0)

instance records_persistent : BI.Persistent (records (F := F) m K) := by unfold records; infer_instance

theorem records_inv (p : Dev nD × CI) : records (F := F) m K ⊢ cellInv ER (rd m) (K p) (kcell p) := by
  have h : (bigSep Finset.univ fun p : Dev nD × CI => (cellInv ER (rd m) (K p) (kcell p) : sProp 𝕄)) ⊢ cellInv ER (rd m) (K p) (kcell p) :=
    bigSep_elim (Finset.mem_univ p)
  unfold records
  iintro ⟨H, -⟩
  iapply h $$ H
theorem records_reached (p : Dev nD × CI) : records (F := F) m K ⊢ reached ER (kcell p) 0 := by
  have h : (bigSep Finset.univ fun p : Dev nD × CI => (reached ER (kcell p) 0 : sProp 𝕄)) ⊢ reached ER (kcell p) 0 :=
    bigSep_elim (Finset.mem_univ p)
  unfold records
  iintro ⟨-, H⟩
  iapply h $$ H

/-- Device `c` with `i` signals, `j` blocks and `l` tiles sent. -/
def Owing (c : Dev nD) (i j l : ℕ) : sProp 𝕄 := iprop(∃ W, owes (c : Thread nD τ) (owe c i j l) W)

/-! ## Signals and the barrier -/

/-- What device `c` spends at its signal to the device `k + 1` places after it. -/
def sigTok (c : Dev nD) (k : Fin 7) : sProp 𝕄 :=
  iprop(dutyTok ER (barC (rot k c)) 0 k ∗ (∃ f, xgPts c (rot k c) f) ∗ (∃ f, rxPts c (rot k c) f))

theorem signal_pay (c : Dev nD) (k : Fin 7) :
    iprop((∃ f, xgPts (F := F) c (rot k c) f) ∗ (∃ f, rxPts (F := F) c (rot k c) f)) ⊢ (rd (F := F) m).payload ((rot k c : Thread nD τ), SemLoc.reg barS) 0 k := by
  show _ ⊢ (rd (F := F) m).payload (kcell (rot k c, none)) 0 k
  rw [payload_eq m (rot k c) none k]
  show _ ⊢ barPay (rot k c) k
  unfold barPay
  rw [rotB_rot]

theorem step_signal (c : Dev nD) (k : Fin 7) {n : Dev nD} (hn : n = rot k c) {k' : ℕ} (hk' : k' = 1)
    {α : Type} {Q : α → sProp 𝕄} {g : PUnit → Prog (TpuEff nD τ sig (Elt F) Λ₀ .tc) α} :
    iprop(records m K ∗ Owing c k.val 0 0 ∗ todo k.val (sigTok (F := F) c))
      ⊢ iprop(((Owing c (k.val + 1) 0 0 ∗ todo (k.val + 1) (sigTok (F := F) c)) -∗ WP c (g ⟨⟩) Q)
          -∗ WP c (.op (.semSignal (n : Thread nD τ) barS k') g) Q) := by
  subst hn hk'
  rw [todo_step]
  unfold Owing sigTok
  iintro ⟨#HR, ⟨%W, HO⟩, ⟨⟨Htok, Hx, Hr⟩, Hrest⟩⟩ Hk
  iapply (Rounds.wp_signal 𝒱₀ ER (rd m) (c : Thread nD τ) none (dst := (rot k c : Thread nD τ)) (κ := K (rot k c, none))
      (d := k) (by rw [show ((rot k c : Thread nD τ), SemLoc.reg barS) = kcell (rot k c, none) from rfl, duties_eq]; exact Finset.mem_univ _)
      (amount_eq m (rot k c) none k) () (owe c (k.val + 1) 0 0)
      (show owe c k.val 0 0 = owe c (k.val + 1) 0 0 + tallyAt (barC (rot k c)) () 1 by unfold owe; rw [oweB_step c k]; simp only [add_assoc]))
    $$ [HO Htok Hx Hr]
  · isplitr; · iapply (records_inv m K (rot k c, none)) $$ HR
    isplitl [HO]; · iexact HO
    isplitl [Htok]; · iexact Htok
    isplitl [Hx Hr]
    · iapply (signal_pay m c k)
      isplitl [Hx] <;> iassumption
    iapply (records_reached m K (rot k c, none)) $$ HR
  iintro HO
  iapply Hk
  isplitl [HO]
  · iexists W; iexact HO
  iexact Hrest

/-- The slots of the device `j + 1` places after `c` that `c` fills. -/
def dstX (c : Dev nD) (j : Fin 7) : sProp 𝕄 := iprop(∃ f, xgPts (F := F) (rot j c) c f)
def dstA (c : Dev nD) (j : Fin 7) : sProp 𝕄 := iprop(∃ f, rxPts (F := F) (rot j c) c f)

omit [FloatOps F] in
/-- All a barrier's payments: the slots to fill, told off by the places after `c`. -/
theorem barPays (c : Dev nD) :
    (bigSep Finset.univ fun k => barPay (F := F) c k) = iprop((bigSep Finset.univ (dstX (F := F) c)) ∗ bigSep Finset.univ (dstA (F := F) c)) := by
  rw [bigSep_univ_equiv Fin.revPerm (fun k => barPay (F := F) c k), ← bigSep_sep']
  refine bigSep_congr fun k _ => ?_
  unfold barPay dstX dstA
  rw [show rotB (Fin.revPerm k) c = rot k c from rotB_rev k c]

theorem step_barrier (c : Dev nD) {k' : ℕ} (hk' : k' = 7)
    {α : Type} {Q : α → sProp 𝕄} {g : PUnit → Prog (TpuEff nD τ sig (Elt F) Λ₀ .tc) α} :
    iprop(records m K ∗ levAts L lv ∗ cred (tallyAt (barC c) () 7) ∗ atPos ER (barC c) 0 ∅ 0 ∗ Owing c 7 0 0)
      ⊢ iprop(((Owing c 7 0 0 ∗ semVal (barC c) 0 ∗ bigSep Finset.univ (dstX (F := F) c) ∗ bigSep Finset.univ (dstA (F := F) c))
            -∗ WP c (g ⟨⟩) Q)
          -∗ WP c (.op (.semWait barS k') g) Q) := by
  subst hk'
  unfold Owing
  iintro ⟨#HR, #Hlev, Hc, Hat, ⟨%W, HO⟩⟩ Hk
  iapply (Rounds.wp_wait_rest_token 𝒱₀ ER (rd m) (c : Thread nD τ) none (κ := K (c, none))
      (wpE_semWait_eq 𝒱₀ (c : Thread nD τ) none Set.univ) (Set.mem_univ _) () (O := owe c 7 0 0) (W := W) (R := 0) (m := 0) (T := ∅)
      ((Nat.zero_add 7).trans (expect_bar m c).symm)) $$ [Hc HO Hat]
  · isplitr; · iapply (records_inv m K (c, none)) $$ HR
    isplitl [Hc]; · iexact Hc
    isplitl [HO]; · iexact HO
    isplitr
    · iapply (mayWait_of c (.reg barS) 1 7 0 0 (by rw [who_bar]; exact le_rfl) (fun _ => by norm_num) (fun _ => by norm_num)
        (fun h => absurd h (lt_irrefl 7))) $$ Hlev
    iexact Hat
  iintro ⟨HO, Hat, -, Hpay⟩
  ihave Hp := (show bigSep ((rd (F := F) m).duties ((c : Thread nD τ), SemLoc.reg barS) 0 \ ∅)
      (fun k => (rd (F := F) m).payload ((c : Thread nD τ), SemLoc.reg barS) 0 k) ⊢ _ from
        Entails.of_eq ((rest_bar m c).trans (barPays c))) $$ Hpay
  imod (Rounds.cell_close ER (rd m) (Set.mem_univ (K (c, none))) (fun h => h) (R := 0 + 1) (duties_later m (barC c))) $$ [Hat] with Hz
  · isplitr; · iapply (records_inv m K (c, none)) $$ HR
    iexact Hat
  iapply Hk
  isplitl [HO]
  · iexists _; iexact HO
  isplitl [Hz]; · iexact Hz
  iexact Hp

/-! ## Transfers -/

/-- Rows `512 n …` of the device's columns, as the transfer to device `n` reads them. -/
abbrev xSrc (n : Dev nD) : Memref sig .tc .vmem S512x512 .f32 := (Memref.whole cc0_stg0_0).slice (xR n) (fun _ => rfl)
/-- The tile of maxima, as each transfer of it reads it. -/
abbrev txM : Memref sig .tc .vmem S8x128 .f32 := Memref.whole cc0_scratch1

/-- Slot `c` filled with rows `512 n …` of device `c`'s columns is as the whole landing buffer of device `n` has it. -/
theorem xg_landed (c n : Dev nD) (fd : S8x512x512.Idx → Elt F .f32) :
    ∀ i ∈ xgI c, (xgM c).view.write (Elt F) fd
      ((xSrc n).view.read (Elt F) (xOf m c)) Finset.univ i
        = xgAll m n i := by
  intro i hi
  rw [← show (xgM c).view.set = xgI c from (View.set_reshape _ _).trans (View.set_slice_whole _ _)] at hi
  obtain ⟨y, -, rfl⟩ := Finset.mem_map.mp hi
  rw [View.write_emb_of_mem _ _ (Finset.mem_univ y), View.read_apply]
  obtain ⟨a, b, rfl⟩ : ∃ (a : Fin 512) (b : Fin 512), y = ix2 a b := ⟨y 0, y 1, eq_ix2 y⟩
  have he : (xgM c).view.emb (ix2 a b) = ix3 (n0 := 8) c a b := by
    show (xgR c).emb (Shape.reshapeEquiv _ (ix2 a b)) = _
    rw [ValueIdx.reshapeEquiv_ix2_1ab]
    funext d
    apply Fin.ext
    fin_cases d
    · show c.val + 1 * 0 = c.val
      omega
    · show 0 + 1 * a.val = a.val
      omega
    · show 0 + 1 * b.val = b.val
      omega
  rw [he]
  rfl

/-- Slot `c` filled with device `c`'s tile is as the whole landing buffer for maxima has it. -/
theorem rx_landed (c : Dev nD) (fd : S8x8x128.Idx → Elt F .f32) :
    ∀ i ∈ rxI c, (rxM c).view.write (Elt F) fd
      (txM.view.read (Elt F) (amaxOf m c)) Finset.univ i = rxAll m i := by
  intro i hi
  rw [← show (rxM c).view.set = rxI c from (View.set_reshape _ _).trans (View.set_slice_whole _ _)] at hi
  obtain ⟨y, -, rfl⟩ := Finset.mem_map.mp hi
  rw [View.write_emb_of_mem _ _ (Finset.mem_univ y), View.read_apply]
  obtain ⟨a, b, rfl⟩ : ∃ (a : Fin 8) (b : Fin 128), y = ix2 a b := ⟨y 0, y 1, eq_ix2 y⟩
  have he : (rxM c).view.emb (ix2 a b) = ix3 (n0 := 8) c a b := by
    show (rxR c).emb (Shape.reshapeEquiv _ (ix2 a b)) = _
    rw [ValueIdx.reshapeEquiv_ix2_1ab]
    funext d
    apply Fin.ext
    fin_cases d
    · show c.val + 1 * 0 = c.val
      omega
    · show 0 + 1 * a.val = a.val
      omega
    · show 0 + 1 * b.val = b.val
      omega
  rw [he]
  exact (show ∀ A : S8x128.Idx → Elt F .f32, _root_.cast (congrArg (Elt F) (rxM c).view.elt_eq.symm)
    (_root_.cast (congrArg (Elt F) txM.view.elt_eq) (A (txM.view.emb (ix2 a b)))) = A (ix2 a b) from fun _ => rfl) (amaxOf m c)

/-- What device `c` spends sending rows to the device `k + 1` places after it: the two payments' tokens, the rows, the slot. -/
def xTok (c : Dev nD) (k : Fin 7) : sProp 𝕄 :=
  iprop(dutyTok ER (dmaC 0 k c) 0 0 ∗ dutyTok ER (dmaC 1 k (rot k c)) 0 0 ∗ xPts c (rot k c) (xOf m c) ∗ dstX c k)
/-- What device `c` spends sending its tile to the device `k + 1` places after it. -/
def aTok (c : Dev nD) (k : Fin 7) : sProp 𝕄 :=
  iprop(dutyTok ER (dmaC 2 k c) 0 0 ∗ dutyTok ER (dmaC 3 k (rot k c)) 0 0 ∗ txPts c (Fin.castSucc k) (amaxOf m c) ∗ dstA c k)
/-- The right to wait for a transfer on array `a` at place `k`. -/
def dCred (a : Fin 4) (c : Dev nD) (k : Fin 7) : sProp 𝕄 := cred (tallyAt (dmaC a k c) () (amt a))

/-- One block's credit, and one tile's, at whichever slot. -/
theorem amount_X (c : Dev nD) (k : Fin 7) : (xgM c).view.amount (.dma (qsem 1 k)) = NX := rfl
theorem amount_A (c : Dev nD) (k : Fin 7) : (rxM c).view.amount (.dma (qsem 3 k)) = NA := rfl
theorem set_xgM (c : Dev nD) : (xgM c).view.set = xgI c := (View.set_reshape _ _).trans (View.set_slice_whole _ _)
theorem set_rxM (c : Dev nD) : (rxM c).view.set = rxI c := (View.set_reshape _ _).trans (View.set_slice_whole _ _)
theorem set_xSrc (c : Dev nD) : (xSrc c).view.set = xI c := View.set_slice_whole _ _
theorem set_txM : txM.view.set = Finset.univ := View.set_whole _

theorem mem_duty (c : Dev nD) (a : Fin 4) (k : Fin 7) : (0 : Fin 7) ∈ (rd (F := F) m).duties (dmaC a k c) 0 := by
  rw [duties_eq m c (some (a, k))]
  exact Finset.mem_singleton_self _
theorem amount_dma (c : Dev nD) (a : Fin 4) (k : Fin 7) : (rd (F := F) m).amount (dmaC a k c) 0 0 = amt a :=
  amount_eq m c (some (a, k)) 0
theorem amt_0 : amt 0 = NX := if_pos (by decide)
theorem amt_1 : amt 1 = NX := if_pos (by decide)
theorem amt_2 : amt 2 = NA := if_neg (by decide)
theorem amt_3 : amt 3 = NA := if_neg (by decide)

/-- The rows sent come back to the sender as they were; -/
theorem pay_0 (c : Dev nD) (k : Fin 7) :
    (((xSrc (rot k c)).view.loc (c : Thread nD τ)) ↦[(xSrc (rot k c)).view.set]{fullShare} (xOf m c) : sProp 𝕄)
      ⊢ (rd (F := F) m).payload (dmaC 0 k c) 0 0 := by
  rw [payload_eq m c (some (0, k)), set_xSrc]
  exact BI.Entails.refl _
/-- landed, they are the destination's slot filled. -/
theorem pay_1 (c : Dev nD) (k : Fin 7) (fd : S8x512x512.Idx → Elt F .f32) :
    (((xgM c).view.loc (rot k c : Thread nD τ)) ↦[(xgM c).view.set]{fullShare}
        ((xgM c).view.write (Elt F) fd ((xSrc (rot k c)).view.read (Elt F) (xOf m c)) Finset.univ) : sProp 𝕄)
      ⊢ (rd (F := F) m).payload (dmaC 1 k (rot k c)) 0 0 := by
  rw [payload_eq m (rot k c) (some (1, k)), set_xgM]
  show _ ⊢ xgPts (rot k c) (rotB k (rot k c)) (xgAll m (rot k c))
  unfold xgPts
  rw [rotB_rot]
  exact Entails.of_eq (pointsTo_congr (xg_landed m c (rot k c) fd))
/-- The same of the tile of maxima, a share of it at a time. -/
theorem pay_2 (c : Dev nD) (k : Fin 7) :
    ((txM.view.loc (c : Thread nD τ)) ↦[txM.view.set]{ShareLeaves.leaf 3 fullShare (Fin.castSucc k)} (amaxOf m c) : sProp 𝕄)
      ⊢ (rd (F := F) m).payload (dmaC 2 k c) 0 0 := by
  rw [payload_eq m c (some (2, k)), set_txM]
  exact BI.Entails.refl _
theorem pay_3 (c : Dev nD) (k : Fin 7) (fd : S8x8x128.Idx → Elt F .f32) :
    (((rxM c).view.loc (rot k c : Thread nD τ)) ↦[(rxM c).view.set]{fullShare}
        ((rxM c).view.write (Elt F) fd (txM.view.read (Elt F) (amaxOf m c)) Finset.univ) : sProp 𝕄)
      ⊢ (rd (F := F) m).payload (dmaC 3 k (rot k c)) 0 0 := by
  rw [payload_eq m (rot k c) (some (3, k)), set_rxM]
  show _ ⊢ rxPts (rot k c) (rotB k (rot k c)) (rxAll m)
  unfold rxPts
  rw [rotB_rot]
  exact Entails.of_eq (pointsTo_congr (rx_landed m c fd))

/-- A transfer of rows, its pieces named. -/
theorem send_rows (c : Dev nD) (k : Fin 7) {hsc hw1 hw2 hw3} (fd : S8x512x512.Idx → Elt F .f32) (W : Waits sig Unit)
    {α : Type} {Q : α → sProp 𝕄} {g : PUnit → Prog (TpuEff nD τ sig (Elt F) Λ₀ .tc) α} :
    iprop(cellInv ER (rd m) (K (c, some (0, k))) (dmaC 0 k c) ∗ cellInv ER (rd m) (K (rot k c, some (1, k))) (dmaC 1 k (rot k c))
        ∗ (((xSrc (rot k c)).view.loc (c : Thread nD τ)) ↦[(xSrc (rot k c)).view.set]{fullShare} (xOf m c))
        ∗ (((xgM c).view.loc (rot k c : Thread nD τ)) ↦[(xgM c).view.set]{fullShare} fd)
        ∗ owes (c : Thread nD τ) (owe c 7 k.val 0) W
        ∗ dutyTok ER (dmaC 0 k c) 0 0 ∗ reached ER (dmaC 0 k c) 0
        ∗ dutyTok ER (dmaC 1 k (rot k c)) 0 0 ∗ reached ER (dmaC 1 k (rot k c)) 0)
      ⊢ iprop(((cred (tallyAt (dmaC 0 k c) () NX) ∗ owes (c : Thread nD τ) (owe c 7 (k.val + 1) 0) W) -∗ WP c (g ⟨⟩) Q)
          -∗ WP c (.op (.enqueueDma (xSrc (rot k c)) (.remote (rot k c : Thread nD τ) (xgM c) (.dma (qsem 0 k)) hsc) (.dma (qsem 1 k)) hw1 hw2 hw3) g) Q) :=
  Rounds.wp_send_pointsTo 𝒱₀ ER (rd m) (c : Thread nD τ) none (κ₁ := K (c, some (0, k))) (κ₂ := K (rot k c, some (1, k)))
    (r₁ := 0) (r₂ := 0) (d₁ := 0) (d₂ := 0) (fd := fd)
    (mem_duty m c 0 k) (mem_duty m (rot k c) 1 k) () () NX (amount_X c k)
    ((amount_dma m c 0 k).trans amt_0) ((amount_dma m (rot k c) 1 k).trans amt_1) (owe c 7 (k.val + 1) 0)
    (by rw [← amt_1]; unfold owe; rw [oweD_step 1 c k, oweB_end]; simp only [add_zero, add_assoc]) (W := W)
    (pay_0 m c k) (pay_1 m c k fd)

/-- A transfer of the tile, its pieces named. -/
theorem send_tile (c : Dev nD) (k : Fin 7) {hsc hw1 hw2 hw3} (fd : S8x8x128.Idx → Elt F .f32) (W : Waits sig Unit)
    {α : Type} {Q : α → sProp 𝕄} {g : PUnit → Prog (TpuEff nD τ sig (Elt F) Λ₀ .tc) α} :
    iprop(cellInv ER (rd m) (K (c, some (2, k))) (dmaC 2 k c) ∗ cellInv ER (rd m) (K (rot k c, some (3, k))) (dmaC 3 k (rot k c))
        ∗ ((txM.view.loc (c : Thread nD τ)) ↦[txM.view.set]{ShareLeaves.leaf 3 fullShare (Fin.castSucc k)} (amaxOf m c))
        ∗ (((rxM c).view.loc (rot k c : Thread nD τ)) ↦[(rxM c).view.set]{fullShare} fd)
        ∗ owes (c : Thread nD τ) (owe c 7 7 k.val) W
        ∗ dutyTok ER (dmaC 2 k c) 0 0 ∗ reached ER (dmaC 2 k c) 0
        ∗ dutyTok ER (dmaC 3 k (rot k c)) 0 0 ∗ reached ER (dmaC 3 k (rot k c)) 0)
      ⊢ iprop(((cred (tallyAt (dmaC 2 k c) () NA) ∗ owes (c : Thread nD τ) (owe c 7 7 (k.val + 1)) W) -∗ WP c (g ⟨⟩) Q)
          -∗ WP c (.op (.enqueueDma txM (.remote (rot k c : Thread nD τ) (rxM c) (.dma (qsem 2 k)) hsc) (.dma (qsem 3 k)) hw1 hw2 hw3) g) Q) :=
  Rounds.wp_send_pointsTo 𝒱₀ ER (rd m) (c : Thread nD τ) none (κ₁ := K (c, some (2, k))) (κ₂ := K (rot k c, some (3, k)))
    (r₁ := 0) (r₂ := 0) (d₁ := 0) (d₂ := 0) (fd := fd)
    (mem_duty m c 2 k) (mem_duty m (rot k c) 3 k) () () NA (amount_A c k)
    ((amount_dma m c 2 k).trans amt_2) ((amount_dma m (rot k c) 3 k).trans amt_3) (owe c 7 7 (k.val + 1))
    (by rw [← amt_3]; unfold owe; rw [oweD_step 3 c k, oweB_end, oweD_end]; simp only [add_zero]) (W := W)
    (pay_2 m c k) (pay_3 m c k fd)

theorem step_sendX (c : Dev nD) (k : Fin 7) {n : Dev nD} (hn : n = rot k c) {sS sR : DmaSem sig} (hS : sS = qsem 0 k) (hR : sR = qsem 1 k)
    {o1 : Fin 3 → ℕ} (h1 : o1 = ![c.val, 0, 0]) {o2 : Fin 2 → ℕ} (h2 : o2 = ![512 * (rot k c).val, 0])
    {i1 : ∀ a, o1 a + S1x512x512.size a ≤ S8x512x512.size a} {i2 : ∀ a, o2 a + S512x512.size a ≤ S4096x512.size a} {hsc hw1 hw2 hw3}
    {α : Type} {Q : α → sProp 𝕄} {g : PUnit → Prog (TpuEff nD τ sig (Elt F) Λ₀ .tc) α} :
    iprop(records m K ∗ Owing c 7 k.val 0 ∗ todo k.val (xTok m c) ∗ past k.val (dCred (F := F) 0 c))
      ⊢ iprop(((Owing c 7 (k.val + 1) 0 ∗ todo (k.val + 1) (xTok m c) ∗ past (k.val + 1) (dCred (F := F) 0 c)) -∗ WP c (g ⟨⟩) Q)
          -∗ WP c (.op (.enqueueDma ((Memref.whole cc0_stg0_0).slice (Rect.unit (s := S4096x512) o2 S512x512.size i2) (fun _ => rfl))
              (.remote (n : Thread nD τ)
                (((Memref.whole cc0_scratch0).slice (Rect.unit (s := S8x512x512) o1 S1x512x512.size i1) (fun _ => rfl)).squeeze S512x512 squeezes_S1x512x512_S512x512)
                (.dma sS) hsc) (.dma sR) hw1 hw2 hw3) g) Q) := by
  subst hn hS hR h1 h2
  rw [todo_step, past_step]
  unfold Owing xTok dstX
  iintro ⟨#HR, ⟨%W, HO⟩, ⟨⟨Ht1, Ht2, Hx, ⟨%fd, Hd⟩⟩, Hrest⟩, Hpast⟩ Hk
  iapply (send_rows m K c k fd W) $$ [HO Ht1 Ht2 Hx Hd]
  · isplitr; · iapply (records_inv m K (c, some (0, k))) $$ HR
    isplitr; · iapply (records_inv m K (rot k c, some (1, k))) $$ HR
    isplitl [Hx]
    · unfold xPts
      rw [set_xSrc]
      iexact Hx
    isplitl [Hd]
    · unfold xgPts
      rw [set_xgM]
      iexact Hd
    isplitl [HO]; · iexact HO
    isplitl [Ht1]; · iexact Ht1
    isplitr; · iapply (records_reached m K (c, some (0, k))) $$ HR
    isplitl [Ht2]; · iexact Ht2
    iapply (records_reached m K (rot k c, some (1, k))) $$ HR
  iintro ⟨Hc, HO⟩
  iapply Hk
  isplitl [HO]
  · iexists W; iexact HO
  isplitl [Hrest]; · iexact Hrest
  isplitl [Hc]; · unfold dCred; rw [amt_0]; iexact Hc
  iexact Hpast

theorem step_sendA (c : Dev nD) (k : Fin 7) {n : Dev nD} (hn : n = rot k c) {sS sR : DmaSem sig} (hS : sS = qsem 2 k) (hR : sR = qsem 3 k)
    {o1 : Fin 3 → ℕ} (h1 : o1 = ![c.val, 0, 0])
    {i1 : ∀ a, o1 a + S1x8x128.size a ≤ S8x8x128.size a} {hsc hw1 hw2 hw3}
    {α : Type} {Q : α → sProp 𝕄} {g : PUnit → Prog (TpuEff nD τ sig (Elt F) Λ₀ .tc) α} :
    iprop(records m K ∗ Owing c 7 7 k.val ∗ todo k.val (aTok m c) ∗ past k.val (dCred (F := F) 2 c))
      ⊢ iprop(((Owing c 7 7 (k.val + 1) ∗ todo (k.val + 1) (aTok m c) ∗ past (k.val + 1) (dCred (F := F) 2 c)) -∗ WP c (g ⟨⟩) Q)
          -∗ WP c (.op (.enqueueDma (Memref.whole cc0_scratch1)
              (.remote (n : Thread nD τ)
                (((Memref.whole cc0_scratch2).slice (Rect.unit (s := S8x8x128) o1 S1x8x128.size i1) (fun _ => rfl)).squeeze S8x128 squeezes_S1x8x128_S8x128)
                (.dma sS) hsc) (.dma sR) hw1 hw2 hw3) g) Q) := by
  subst hn hS hR h1
  rw [todo_step, past_step]
  unfold Owing aTok dstA
  iintro ⟨#HR, ⟨%W, HO⟩, ⟨⟨Ht1, Ht2, Hx, ⟨%fd, Hd⟩⟩, Hrest⟩, Hpast⟩ Hk
  iapply (send_tile m K c k fd W) $$ [HO Ht1 Ht2 Hx Hd]
  · isplitr; · iapply (records_inv m K (c, some (2, k))) $$ HR
    isplitr; · iapply (records_inv m K (rot k c, some (3, k))) $$ HR
    isplitl [Hx]
    · unfold txPts
      rw [set_txM]
      iexact Hx
    isplitl [Hd]
    · unfold rxPts
      rw [set_rxM]
      iexact Hd
    isplitl [HO]; · iexact HO
    isplitl [Ht1]; · iexact Ht1
    isplitr; · iapply (records_reached m K (c, some (2, k))) $$ HR
    isplitl [Ht2]; · iexact Ht2
    iapply (records_reached m K (rot k c, some (3, k))) $$ HR
  iintro ⟨Hc, HO⟩
  iapply Hk
  isplitl [HO]
  · iexists W; iexact HO
  isplitl [Hrest]; · iexact Hrest
  isplitl [Hc]; · unfold dCred; rw [amt_2]; iexact Hc
  iexact Hpast

/-! ## Waits on transfers -/

theorem lvl_dma_le (a : Fin 4) (k : Fin 7) : lvl (some (a, k)) ≤ 3 := by revert a k; decide

/-- What a wait on array `a` at place `k` spends, -/
def wTok (a : Fin 4) (c : Dev nD) (k : Fin 7) : sProp 𝕄 := iprop(atPos ER (dmaC a k c) 0 ∅ 0 ∗ dCred a c k)
/-- and what it leaves: the transfer's payment, and the counter at zero, the cell closed. -/
def wDone (a : Fin 4) (c : Dev nD) (k : Fin 7) : sProp 𝕄 := iprop(dmaPay m a k c ∗ semVal (dmaC a k c) 0)

theorem step_wait (a : Fin 4) (c : Dev nD) (k : Fin 7) (l : ℕ) (hl : l = 7 ∨ a = 1) {q : DmaSem sig} (hq : q = qsem a k)
    {sp sp' : Space} {s s' : Shape} {e e' : EltTy} {src : Memref sig .tc sp' s' e'} {κ' : Kind} {dst : Memref sig κ' sp s e} {hw1 hw2}
    (hamt : dst.view.dmaCredit = amt a)
    {α : Type} {Q : α → sProp 𝕄} {g : PUnit → Prog (TpuEff nD τ sig (Elt F) Λ₀ .tc) α} :
    iprop(records m K ∗ levAts L lv ∗ Owing c 7 7 l ∗ todo k.val (wTok (F := F) a c) ∗ past k.val (wDone m a c))
      ⊢ iprop(((Owing c 7 7 l ∗ todo (k.val + 1) (wTok (F := F) a c) ∗ past (k.val + 1) (wDone m a c)) -∗ WP c (g ⟨⟩) Q)
          -∗ WP c (.op (.waitDma2 q src dst hw1 hw2) g) Q) := by
  subst hq
  rw [todo_step, past_step]
  unfold Owing wTok dCred
  iintro ⟨#HR, #Hlev, ⟨%W, HO⟩, ⟨⟨Hat, Hc⟩, Hrest⟩, Hpast⟩ Hk
  iapply (Rounds.wp_wait_rest_token 𝒱₀ ER (rd m) (c : Thread nD τ) none (κ := K (c, some (a, k)))
      (wpE_waitDma2_eq 𝒱₀ (c : Thread nD τ) none Set.univ) (Set.mem_univ _) () (O := owe c 7 7 l) (W := W) (R := 0) (m := 0) (T := ∅)
      ((Nat.zero_add _).trans (hamt.trans (expect_dma m a k c).symm))) $$ [Hc HO Hat]
  · isplitr; · iapply (records_inv m K (c, some (a, k))) $$ HR
    isplitl [Hc]; · rw [hamt]; iexact Hc
    isplitl [HO]; · iexact HO
    isplitr
    · rcases hl with rfl | rfl
      · iapply (mayWait_of c (.dma (qsem a k)) 3 7 7 7 (by rw [who_dma]; exact lvl_dma_le a k) (fun h => absurd h (lt_irrefl 7))
          (fun h => absurd h (lt_irrefl 7)) (fun h => absurd h (lt_irrefl 7))) $$ Hlev
      · iapply (mayWait_of c (.dma (qsem 1 k)) 2 7 7 l (by rw [who_dma]; exact le_rfl) (fun _ => by norm_num)
          (fun h => absurd h (lt_irrefl 7)) (fun h => absurd h (lt_irrefl 7))) $$ Hlev
    iexact Hat
  iintro ⟨HO, Hat, -, Hpay⟩
  ihave Hp := (show bigSep ((rd (F := F) m).duties ((c : Thread nD τ), SemLoc.dma (qsem a k)) 0 \ ∅)
      (fun j => (rd (F := F) m).payload ((c : Thread nD τ), SemLoc.dma (qsem a k)) 0 j) ⊢ _ from
        Entails.of_eq (rest_dma m a k c)) $$ Hpay
  imod (Rounds.cell_close ER (rd m) (Set.mem_univ (K (c, some (a, k)))) (fun h => h) (R := 0 + 1) (duties_later m (dmaC a k c))) $$ [Hat] with Hz
  · isplitr; · iapply (records_inv m K (c, some (a, k))) $$ HR
    iexact Hat
  iapply Hk
  isplitl [HO]
  · iexists _; iexact HO
  isplitl [Hrest]; · iexact Hrest
  isplitl [Hp Hz]
  · unfold wDone
    isplitl [Hp] <;> iassumption
  iexact Hpast

end Cert.AllToAll
-- ==== Proof.Phases.lean ====
/- The kernel's phases, counted: how many signals, blocks and tiles a device has sent, how many arrivals it has waited for.
   Each effect moves one count by one. Then the loads and stores, at the pieces they touch. -/
module

public import proofs.«01_k».proof.Proof.Steps

@[expose] public section

noncomputable section

namespace Cert.AllToAll

open Cert.KernelIdeal Cert.KernelIdeal.Gen
open Idealize.ShloMosaic Idealize.ShloMosaic.TcCoe
open Idealize.ShloMosaic.ValueIdx (ix2 ix3 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## The counts -/

def know : sProp 𝕄 := iprop(records m K ∗ levAts L lv)
instance know_persistent : BI.Persistent (know (F := F) m K) := by unfold know; infer_instance
/-- `n` signals sent; -/
def sigs (c : Dev nD) (n : ℕ) : sProp 𝕄 := iprop(Owing c n 0 0 ∗ todo n (sigTok (F := F) c))
/-- `n` blocks sent; -/
def sendsX (c : Dev nD) (n : ℕ) : sProp 𝕄 := iprop(Owing c 7 n 0 ∗ todo n (xTok m c) ∗ past n (dCred (F := F) 0 c))
/-- `n` tiles sent; -/
def sendsA (c : Dev nD) (n : ℕ) : sProp 𝕄 := iprop(Owing c 7 7 n ∗ todo n (aTok m c) ∗ past n (dCred (F := F) 2 c))
/-- `n` waits on array `a` over, with `l` tiles sent. -/
def waits (a : Fin 4) (c : Dev nD) (l n : ℕ) : sProp 𝕄 := iprop(Owing c 7 7 l ∗ todo n (wTok (F := F) a c) ∗ past n (wDone m a c))

section Steps

theorem do_signal (c : Dev nD) (k : Fin 7) {n : Dev nD} (hn : n = rot k c) {k' : ℕ} (hk' : k' = 1) {p p' : ℕ} (hp : p = k.val) (hp' : p' = k.val + 1)
    {α : Type} {Q : α → sProp 𝕄} {g : PUnit → Prog (TpuEff nD τ sig (Elt F) Λ₀ .tc) α} :
    iprop(know m K ∗ sigs (F := F) c p) ⊢ iprop((sigs (F := F) c p' -∗ WP c (g ⟨⟩) Q) -∗ WP c (.op (.semSignal (n : Thread nD τ) barS k') g) Q) := by
  subst hp hp'
  unfold know sigs
  iintro ⟨⟨#HR, -⟩, HO, HT⟩ Hk
  iapply (step_signal m K c k hn hk') $$ [$HR $HO $HT]
  iexact Hk

theorem do_barrier (c : Dev nD) {k' : ℕ} (hk' : k' = 7) {α : Type} {Q : α → sProp 𝕄} {g : PUnit → Prog (TpuEff nD τ sig (Elt F) Λ₀ .tc) α} :
    iprop(know m K ∗ sigs (F := F) c 7 ∗ cred (tallyAt (barC c) () 7) ∗ atPos ER (barC c) 0 ∅ 0)
      ⊢ iprop(((Owing c 7 0 0 ∗ semVal (barC c) 0 ∗ bigSep Finset.univ (dstX (F := F) c) ∗ bigSep Finset.univ (dstA (F := F) c))
            -∗ WP c (g ⟨⟩) Q)
          -∗ WP c (.op (.semWait barS k') g) Q) := by
  unfold know sigs
  iintro ⟨⟨#HR, #Hl⟩, ⟨HO, -⟩, Hc, Hat⟩ Hk
  iapply (step_barrier m K c hk') $$ [$HR $Hl $Hc $Hat $HO]
  iexact Hk

theorem do_sendX (c : Dev nD) (k : Fin 7) {n : Dev nD} (hn : n = rot k c) {sS sR : DmaSem sig} (hS : sS = qsem 0 k) (hR : sR = qsem 1 k)
    {o1 : Fin 3 → ℕ} (h1 : o1 = ![c.val, 0, 0]) {o2 : Fin 2 → ℕ} (h2 : o2 = ![512 * (rot k c).val, 0]) {p p' : ℕ} (hp : p = k.val) (hp' : p' = k.val + 1)
    {i1 : ∀ a, o1 a + S1x512x512.size a ≤ S8x512x512.size a} {i2 : ∀ a, o2 a + S512x512.size a ≤ S4096x512.size a} {hsc hw1 hw2 hw3}
    {α : Type} {Q : α → sProp 𝕄} {g : PUnit → Prog (TpuEff nD τ sig (Elt F) Λ₀ .tc) α} :
    iprop(know m K ∗ sendsX m c p)
      ⊢ iprop((sendsX m c p' -∗ WP c (g ⟨⟩) Q)
          -∗ WP c (.op (.enqueueDma ((Memref.whole cc0_stg0_0).slice (Rect.unit (s := S4096x512) o2 S512x512.size i2) (fun _ => rfl))
              (.remote (n : Thread nD τ)
                (((Memref.whole cc0_scratch0).slice (Rect.unit (s := S8x512x512) o1 S1x512x512.size i1) (fun _ => rfl)).squeeze S512x512 squeezes_S1x512x512_S512x512)
                (.dma sS) hsc) (.dma sR) hw1 hw2 hw3) g) Q) := by
  subst hp hp'
  unfold know sendsX
  iintro ⟨⟨#HR, -⟩, HO, HT, HP⟩ Hk
  iapply (step_sendX m K c k hn hS hR h1 h2) $$ [$HR $HO $HT $HP]
  iexact Hk

theorem do_sendA (c : Dev nD) (k : Fin 7) {n : Dev nD} (hn : n = rot k c) {sS sR : DmaSem sig} (hS : sS = qsem 2 k) (hR : sR = qsem 3 k)
    {o1 : Fin 3 → ℕ} (h1 : o1 = ![c.val, 0, 0]) {p p' : ℕ} (hp : p = k.val) (hp' : p' = k.val + 1)
    {i1 : ∀ a, o1 a + S1x8x128.size a ≤ S8x8x128.size a} {hsc hw1 hw2 hw3}
    {α : Type} {Q : α → sProp 𝕄} {g : PUnit → Prog (TpuEff nD τ sig (Elt F) Λ₀ .tc) α} :
    iprop(know m K ∗ sendsA m c p)
      ⊢ iprop((sendsA m c p' -∗ WP c (g ⟨⟩) Q)
          -∗ WP c (.op (.enqueueDma (Memref.whole cc0_scratch1)
              (.remote (n : Thread nD τ)
                (((Memref.whole cc0_scratch2).slice (Rect.unit (s := S8x8x128) o1 S1x8x128.size i1) (fun _ => rfl)).squeeze S8x128 squeezes_S1x8x128_S8x128)
                (.dma sS) hsc) (.dma sR) hw1 hw2 hw3) g) Q) := by
  subst hp hp'
  unfold know sendsA
  iintro ⟨⟨#HR, -⟩, HO, HT, HP⟩ Hk
  iapply (step_sendA m K c k hn hS hR h1) $$ [$HR $HO $HT $HP]
  iexact Hk

theorem do_wait (a : Fin 4) (c : Dev nD) (k : Fin 7) {l : ℕ} (hl : l = 7 ∨ a = 1) {q : DmaSem sig} (hq : q = qsem a k)
    {p p' : ℕ} (hp : p = k.val) (hp' : p' = k.val + 1)
    {sp sp' : Space} {s s' : Shape} {e e' : EltTy} {src : Memref sig .tc sp' s' e'} {κ' : Kind} {dst : Memref sig κ' sp s e} {hw1 hw2}
    (hamt : dst.view.dmaCredit = amt a) {α : Type} {Q : α → sProp 𝕄} {g : PUnit → Prog (TpuEff nD τ sig (Elt F) Λ₀ .tc) α} :
    iprop(know m K ∗ waits m a c l p)
      ⊢ iprop((waits m a c l p' -∗ WP c (g ⟨⟩) Q) -∗ WP c (.op (.waitDma2 q src dst hw1 hw2) g) Q) := by
  subst hp hp'
  unfold know waits
  iintro ⟨⟨#HR, #Hl⟩, HO, HT, HP⟩ Hk
  iapply (step_wait m K a c k l hl hq hamt) $$ [$HR $Hl $HO $HT $HP]
  iexact Hk

/-! ## The credits waited for -/

theorem credit_x {o : Fin 2 → ℕ} {i : ∀ a, o a + S512x512.size a ≤ S4096x512.size a} :
    ((Memref.whole cc0_stg0_0).slice (Rect.unit (s := S4096x512) o S512x512.size i) (fun _ => rfl)).view.dmaCredit = amt 0 :=
  Eq.trans (b := NX) rfl amt_0.symm
theorem credit_xg {o : Fin 3 → ℕ} {i : ∀ a, o a + S1x512x512.size a ≤ S8x512x512.size a} :
    (((Memref.whole cc0_scratch0).slice (Rect.unit (s := S8x512x512) o S1x512x512.size i) (fun _ => rfl)).squeeze S512x512 squeezes_S1x512x512_S512x512).view.dmaCredit
      = amt 1 :=
  Eq.trans (b := NX) rfl amt_1.symm
theorem credit_tx : (Memref.whole cc0_scratch1 : Memref sig .tc _ _ _).view.dmaCredit = amt 2 := Eq.trans (b := NA) rfl amt_2.symm
theorem credit_rx {o : Fin 3 → ℕ} {i : ∀ a, o a + S1x8x128.size a ≤ S8x8x128.size a} :
    (((Memref.whole cc0_scratch2).slice (Rect.unit (s := S8x8x128) o S1x8x128.size i) (fun _ => rfl)).squeeze S8x128 squeezes_S1x8x128_S8x128).view.dmaCredit
      = amt 3 :=
  Eq.trans (b := NA) rfl amt_3.symm

/-! ## Loads and stores -/

/-- Device `c` holds its staging buffers for `w` and for the result, and its tile of maxima. -/
def wPts (c : Dev nD) : sProp 𝕄 := ((c : Thread nD τ).loc cc0_stg1_0) ↦{fullShare} wOf m c
def oPts (c : Dev nD) (f : S512x2048.Idx → Elt F .f32) : sProp 𝕄 := ((c : Thread nD τ).loc cc0_stg2_0) ↦{fullShare} f
def tPts (c : Dev nD) (f : S8x128.Idx → Elt F .f32) : sProp 𝕄 := ((c : Thread nD τ).loc cc0_scratch1) ↦{fullShare} f
def rPts (c : Dev nD) (f : S8x8x128.Idx → Elt F .f32) : sProp 𝕄 := ((c : Thread nD τ).loc cc0_scratch2) ↦{fullShare} f

theorem load_x (c d : Dev nD) {o : Fin 2 → ℕ} (ho : o = ![512 * d.val, 0]) {i : ∀ a, o a + S512x512.size a ≤ S4096x512.size a} {hl}
    {α : Type} {Q : α → sProp 𝕄} {g : Vec F S512x512 .f32 → Prog (TpuEff nD τ sig (Elt F) Λ₀ .tc) α} :
    xPts c d (xOf m c) ⊢ iprop((xPts c d (xOf m c) -∗ WP c (g (xBlk m c d)) Q)
      -∗ WP c (.op (.load (Memref.whole cc0_stg0_0) (Rect.unit (s := S4096x512) o S512x512.size i).toLoadRect hl) g) Q) := by
  subst ho
  exact wp_load_rect 𝒱₀ (c : Thread nD τ) none Set.univ (m := Memref.whole cc0_stg0_0) (r := xR d) (S := xI d) (f := xOf m c)
    (by show ((View.whole cc0_stg0_0).slice (xR d)).set ⊆ _; rw [View.set_slice_whole])

theorem load_w (c s : Dev nD) {o : Fin 2 → ℕ} (ho : o = ![512 * s.val, 0]) {i : ∀ a, o a + S512x2048.size a ≤ S4096x2048.size a} {hl}
    {α : Type} {Q : α → sProp 𝕄} {g : Vec F S512x2048 .f32 → Prog (TpuEff nD τ sig (Elt F) Λ₀ .tc) α} :
    wPts m c ⊢ iprop((wPts m c -∗ WP c (g (wBlk m c s)) Q)
      -∗ WP c (.op (.load (Memref.whole cc0_stg1_0) (Rect.unit (s := S4096x2048) o S512x2048.size i).toLoadRect hl) g) Q) := by
  subst ho
  exact wp_load_rect 𝒱₀ (c : Thread nD τ) none Set.univ (m := Memref.whole cc0_stg1_0) (r := wR s) (S := Finset.univ) (f := wOf m c)
    (Finset.subset_univ _)

/-- The slot whose arrival was waited for last is read whole. -/
theorem load_xg (c : Dev nD) (k : Fin 7) {p : ℕ} (hp : p = k.val + 1) {l : ℕ} {o : Fin 3 → ℕ} (ho : o = ![(rotB k c).val, 0, 0])
    {i : ∀ a, o a + S1x512x512.size a ≤ S8x512x512.size a} {hl} {α : Type} {Q : α → sProp 𝕄} {g : Vec F S1x512x512 .f32 → Prog (TpuEff nD τ sig (Elt F) Λ₀ .tc) α} :
    waits m 1 c l p ⊢ iprop((waits m 1 c l p -∗ WP c (g (xSlot m c (rotB k c))) Q)
      -∗ WP c (.op (.load (Memref.whole cc0_scratch0) (Rect.unit (s := S8x512x512) o S1x512x512.size i).toLoadRect hl) g) Q) := by
  subst ho hp
  have h : xgPts c (rotB k c) (xgAll m c) ⊢ iprop((xgPts c (rotB k c) (xgAll m c) -∗ WP c (g (xSlot m c (rotB k c))) Q)
      -∗ WP c (.op (.load (Memref.whole cc0_scratch0) (Rect.unit (s := S8x512x512) _ S1x512x512.size i).toLoadRect hl) g) Q) :=
    wp_load_rect 𝒱₀ (c : Thread nD τ) none Set.univ (m := Memref.whole cc0_scratch0) (r := xgR (rotB k c)) (S := xgI (rotB k c)) (f := xgAll m c)
      (by show ((View.whole cc0_scratch0).slice (xgR (rotB k c))).set ⊆ _; rw [View.set_slice_whole])
  unfold waits
  rw [past_step]
  have hd : wDone m 1 c k = iprop(xgPts c (rotB k c) (xgAll m c) ∗ semVal (dmaC 1 k c) 0) := rfl
  rw [hd]
  iintro ⟨HO, HT, ⟨Hx, Hz⟩, HP⟩ Hk
  iapply h $$ Hx
  iintro Hx
  iapply Hk
  iframe HO HT Hx Hz HP

/-- A load of a whole buffer, and a store over one. -/
theorem zero2 : (![0, 0] : Fin 2 → ℕ) = fun _ => 0 := by funext a; fin_cases a <;> rfl
theorem zero3 : (![0, 0, 0] : Fin 3 → ℕ) = fun _ => 0 := by funext a; fin_cases a <;> rfl

theorem load_o (c : Dev nD) (f : S512x2048.Idx → Elt F .f32) {i : ∀ a, (![0, 0] : Fin 2 → ℕ) a + S512x2048.size a ≤ S512x2048.size a} {hl}
    {α : Type} {Q : α → sProp 𝕄} {g : Vec F S512x2048 .f32 → Prog (TpuEff nD τ sig (Elt F) Λ₀ .tc) α} :
    oPts c f ⊢ iprop((oPts c f -∗ WP c (g f) Q)
      -∗ WP c (.op (.load (Memref.whole cc0_stg2_0) (Rect.unit (s := S512x2048) ![0, 0] S512x2048.size i).toLoadRect hl) g) Q) := by
  have e : View.readAt (Elt F) (Memref.whole cc0_stg2_0 : Memref sig .tc _ _ _).view (Rect.unit (s := S512x2048) ![0, 0] S512x2048.size i).toLoadRect f = f :=
    Memref.readAt_unit_zero (Elt F) cc0_stg2_0 zero2 i f
  have h : oPts c f ⊢ iprop((oPts c f -∗ WP c (g (View.readAt (Elt F) (Memref.whole cc0_stg2_0 : Memref sig .tc _ _ _).view
        (Rect.unit (s := S512x2048) ![0, 0] S512x2048.size i).toLoadRect f)) Q)
      -∗ WP c (.op (.load (Memref.whole cc0_stg2_0) (Rect.unit (s := S512x2048) ![0, 0] S512x2048.size i).toLoadRect hl) g) Q) :=
    wp_load 𝒱₀ (c : Thread nD τ) none Set.univ (m := Memref.whole cc0_stg2_0) (Finset.subset_univ _)
  rwa [e] at h

theorem store_o (c : Dev nD) (f w : S512x2048.Idx → Elt F .f32) {i : ∀ a, (![0, 0] : Fin 2 → ℕ) a + S512x2048.size a ≤ S512x2048.size a} {hl hm}
    {α : Type} {Q : α → sProp 𝕄} {g : PUnit → Prog (TpuEff nD τ sig (Elt F) Λ₀ .tc) α} :
    oPts c f ⊢ iprop((oPts c w -∗ WP c (g ⟨⟩) Q)
      -∗ WP c (.op (.store (Memref.whole cc0_stg2_0) (Rect.unit (s := S512x2048) ![0, 0] S512x2048.size i) w Finset.univ hl hm) g) Q) := by
  have e : ((Memref.whole cc0_stg2_0 : Memref sig .tc _ _ _).access (Rect.unit (s := S512x2048) ![0, 0] S512x2048.size i)).write (Elt F) f w Finset.univ = w :=
    Memref.write_access_unit_zero_univ (Elt F) cc0_stg2_0 zero2 i f w
  have h : oPts c f ⊢ iprop((oPts c (((Memref.whole cc0_stg2_0 : Memref sig .tc _ _ _).access (Rect.unit (s := S512x2048) ![0, 0] S512x2048.size i)).write
        (Elt F) f w Finset.univ) -∗ WP c (g ⟨⟩) Q)
      -∗ WP c (.op (.store (Memref.whole cc0_stg2_0) (Rect.unit (s := S512x2048) ![0, 0] S512x2048.size i) w Finset.univ hl hm) g) Q) :=
    wp_store 𝒱₀ (c : Thread nD τ) none Set.univ (m := Memref.whole cc0_stg2_0) (r := Rect.unit (s := S512x2048) ![0, 0] S512x2048.size i) (Mk := Finset.univ)
      (S := Finset.univ) (f := f) (w := w) (Finset.subset_univ _)
  rwa [e] at h

theorem load_t (c : Dev nD) (f : S8x128.Idx → Elt F .f32) {i : ∀ a, (![0, 0] : Fin 2 → ℕ) a + S8x128.size a ≤ S8x128.size a} {hl}
    {α : Type} {Q : α → sProp 𝕄} {g : Vec F S8x128 .f32 → Prog (TpuEff nD τ sig (Elt F) Λ₀ .tc) α} :
    tPts c f ⊢ iprop((tPts c f -∗ WP c (g f) Q)
      -∗ WP c (.op (.load (Memref.whole cc0_scratch1) (Rect.unit (s := S8x128) ![0, 0] S8x128.size i).toLoadRect hl) g) Q) := by
  have e : View.readAt (Elt F) (Memref.whole cc0_scratch1 : Memref sig .tc _ _ _).view (Rect.unit (s := S8x128) ![0, 0] S8x128.size i).toLoadRect f = f :=
    Memref.readAt_unit_zero (Elt F) cc0_scratch1 zero2 i f
  have h : tPts c f ⊢ iprop((tPts c f -∗ WP c (g (View.readAt (Elt F) (Memref.whole cc0_scratch1 : Memref sig .tc _ _ _).view
        (Rect.unit (s := S8x128) ![0, 0] S8x128.size i).toLoadRect f)) Q)
      -∗ WP c (.op (.load (Memref.whole cc0_scratch1) (Rect.unit (s := S8x128) ![0, 0] S8x128.size i).toLoadRect hl) g) Q) :=
    wp_load 𝒱₀ (c : Thread nD τ) none Set.univ (m := Memref.whole cc0_scratch1) (Finset.subset_univ _)
  rwa [e] at h

theorem store_t (c : Dev nD) (f w : S8x128.Idx → Elt F .f32) {i : ∀ a, (![0, 0] : Fin 2 → ℕ) a + S8x128.size a ≤ S8x128.size a} {hl hm}
    {α : Type} {Q : α → sProp 𝕄} {g : PUnit → Prog (TpuEff nD τ sig (Elt F) Λ₀ .tc) α} :
    tPts c f ⊢ iprop((tPts c w -∗ WP c (g ⟨⟩) Q)
      -∗ WP c (.op (.store (Memref.whole cc0_scratch1) (Rect.unit (s := S8x128) ![0, 0] S8x128.size i) w Finset.univ hl hm) g) Q) := by
  have e : ((Memref.whole cc0_scratch1 : Memref sig .tc _ _ _).access (Rect.unit (s := S8x128) ![0, 0] S8x128.size i)).write (Elt F) f w Finset.univ = w :=
    Memref.write_access_unit_zero_univ (Elt F) cc0_scratch1 zero2 i f w
  have h : tPts c f ⊢ iprop((tPts c (((Memref.whole cc0_scratch1 : Memref sig .tc _ _ _).access (Rect.unit (s := S8x128) ![0, 0] S8x128.size i)).write
        (Elt F) f w Finset.univ) -∗ WP c (g ⟨⟩) Q)
      -∗ WP c (.op (.store (Memref.whole cc0_scratch1) (Rect.unit (s := S8x128) ![0, 0] S8x128.size i) w Finset.univ hl hm) g) Q) :=
    wp_store 𝒱₀ (c : Thread nD τ) none Set.univ (m := Memref.whole cc0_scratch1) (r := Rect.unit (s := S8x128) ![0, 0] S8x128.size i) (Mk := Finset.univ)
      (S := Finset.univ) (f := f) (w := w) (Finset.subset_univ _)
  rwa [e] at h

theorem load_r (c : Dev nD) (f : S8x8x128.Idx → Elt F .f32) {i : ∀ a, (![0, 0, 0] : Fin 3 → ℕ) a + S8x8x128.size a ≤ S8x8x128.size a} {hl}
    {α : Type} {Q : α → sProp 𝕄} {g : Vec F S8x8x128 .f32 → Prog (TpuEff nD τ sig (Elt F) Λ₀ .tc) α} :
    rPts c f ⊢ iprop((rPts c f -∗ WP c (g f) Q)
      -∗ WP c (.op (.load (Memref.whole cc0_scratch2) (Rect.unit (s := S8x8x128) ![0, 0, 0] S8x8x128.size i).toLoadRect hl) g) Q) := by
  have e : View.readAt (Elt F) (Memref.whole cc0_scratch2 : Memref sig .tc _ _ _).view (Rect.unit (s := S8x8x128) ![0, 0, 0] S8x8x128.size i).toLoadRect f = f :=
    Memref.readAt_unit_zero (Elt F) cc0_scratch2 zero3 i f
  have h : rPts c f ⊢ iprop((rPts c f -∗ WP c (g (View.readAt (Elt F) (Memref.whole cc0_scratch2 : Memref sig .tc _ _ _).view
        (Rect.unit (s := S8x8x128) ![0, 0, 0] S8x8x128.size i).toLoadRect f)) Q)
      -∗ WP c (.op (.load (Memref.whole cc0_scratch2) (Rect.unit (s := S8x8x128) ![0, 0, 0] S8x8x128.size i).toLoadRect hl) g) Q) :=
    wp_load 𝒱₀ (c : Thread nD τ) none Set.univ (m := Memref.whole cc0_scratch2) (Finset.subset_univ _)
  rwa [e] at h

/-- The device's own slot for maxima is read, whatever it holds, -/
theorem load_rx (c : Dev nD) {o : Fin 3 → ℕ} (ho : o = ![c.val, 0, 0]) {i : ∀ a, o a + S1x8x128.size a ≤ S8x8x128.size a} {hl}
    (f : S8x8x128.Idx → Elt F .f32) {α : Type} {Q : α → sProp 𝕄} {g : Vec F S1x8x128 .f32 → Prog (TpuEff nD τ sig (Elt F) Λ₀ .tc) α} :
    rxPts c c f ⊢ iprop((∀ v, rxPts c c f -∗ WP c (g v) Q)
      -∗ WP c (.op (.load (Memref.whole cc0_scratch2) (Rect.unit (s := S8x8x128) o S1x8x128.size i).toLoadRect hl) g) Q) := by
  subst ho
  have h : rxPts c c f ⊢ iprop((rxPts c c f -∗ WP c (g fun y => f ((rxR c).emb y)) Q)
      -∗ WP c (.op (.load (Memref.whole cc0_scratch2) (Rect.unit (s := S8x8x128) _ S1x8x128.size i).toLoadRect hl) g) Q) :=
    wp_load_rect 𝒱₀ (c : Thread nD τ) none Set.univ (m := Memref.whole cc0_scratch2) (r := rxR c) (S := rxI c) (f := f)
      (by show ((View.whole cc0_scratch2).slice (rxR c)).set ⊆ _; rw [View.set_slice_whole])
  iintro Hr Hk
  iapply h $$ Hr
  iintro Hr
  iapply Hk $$ Hr

/-- The tile lifted to a slot's shape. -/
theorem pay17_at (A : S8x128.Idx → Elt F .f32) (a : Fin 1) (b : Fin 8) (d : Fin 128) : k0_pay17 A (ix3 a b d) = A (ix2 b d) := by
  unfold k0_pay17
  show shapeCast S1x8x128 (shapeCast S1x8x128 A shapeCasts_S8x128_S1x8x128) shapeCasts_S1x8x128_S1x8x128 (ix3 a b d) = _
  rw [shapeCast_self]
  exact ValueIdx.shapeCast_ab_1ab_apply A _ a b d

/-- and takes the device's tile. -/
theorem store_rx (c : Dev nD) {o : Fin 3 → ℕ} (ho : o = ![c.val, 0, 0]) {i : ∀ a, o a + S1x8x128.size a ≤ S8x8x128.size a} {hl hm}
    (f : S8x8x128.Idx → Elt F .f32) {α : Type} {Q : α → sProp 𝕄} {g : PUnit → Prog (TpuEff nD τ sig (Elt F) Λ₀ .tc) α} :
    rxPts c c f ⊢ iprop((rxPts c c (rxAll m) -∗ WP c (g ⟨⟩) Q)
      -∗ WP c (.op (.store (Memref.whole cc0_scratch2) (Rect.unit (s := S8x8x128) o S1x8x128.size i) (k0_pay17 (amaxOf m c)) Finset.univ hl hm) g) Q) := by
  subst ho
  have hw : ∀ y ∈ rxI c, ((Memref.whole cc0_scratch2 : Memref sig .tc .vmem S8x8x128 .f32).access (rxR c)).write (Elt F) f (k0_pay17 (amaxOf m c)) Finset.univ y
      = rxAll m y := by
    intro y hy
    obtain ⟨z, -, rfl⟩ := Finset.mem_map.mp (show y ∈ Finset.univ.map (rxR c).emb by rw [Rect.map_emb_univ]; exact hy)
    refine (View.write_emb_of_mem (v := (Memref.whole cc0_scratch2 : Memref sig .tc .vmem S8x8x128 .f32).access (rxR c)) f _ (Finset.mem_univ z)).trans ?_
    obtain ⟨a, b, d, rfl⟩ : ∃ (a : Fin 1) (b : Fin 8) (d : Fin 128), z = ix3 a b d := ⟨z 0, z 1, z 2, eq_ix3 z⟩
    have he : (rxR c).emb (ix3 a b d) = ix3 (n0 := 8) c b d := by
      funext j
      apply Fin.ext
      fin_cases j
      · show c.val + 1 * a.val = c.val
        omega
      · show 0 + 1 * b.val = b.val
        omega
      · show 0 + 1 * d.val = d.val
        omega
    rw [he]
    exact (show ∀ A : S8x128.Idx → Elt F .f32, _root_.cast (congrArg (Elt F)
      ((Memref.whole cc0_scratch2 : Memref sig .tc .vmem S8x8x128 .f32).access (rxR c)).elt_eq.symm) (k0_pay17 A (ix3 a b d)) = A (ix2 b d)
      from fun A => pay17_at A a b d) (amaxOf m c)
  have h : rxPts c c f ⊢ iprop((rxPts c c (((Memref.whole cc0_scratch2 : Memref sig .tc .vmem S8x8x128 .f32).access (rxR c)).write (Elt F) f
        (k0_pay17 (amaxOf m c)) Finset.univ) -∗ WP c (g ⟨⟩) Q)
      -∗ WP c (.op (.store (Memref.whole cc0_scratch2) (rxR c) (k0_pay17 (amaxOf m c)) Finset.univ hl hm) g) Q) :=
    wp_store 𝒱₀ (c : Thread nD τ) none Set.univ (m := Memref.whole cc0_scratch2) (r := rxR c) (Mk := Finset.univ) (S := rxI c) (f := f)
      (by show ((View.whole cc0_scratch2).slice (rxR c)).set ⊆ _; rw [View.set_slice_whole])
  have e : rxPts c c (((Memref.whole cc0_scratch2 : Memref sig .tc .vmem S8x8x128 .f32).access (rxR c)).write (Elt F) f
        (k0_pay17 (amaxOf m c)) Finset.univ) = rxPts c c (rxAll m) := pointsTo_congr hw
  rwa [e] at h
end Steps

end Cert.AllToAll
-- ==== Proof.Signals.lean ====
/- The kernel's first half: signals, the barrier, and the blocks of `x` on their way. -/
module

public import proofs.«01_k».proof.Proof.Phases

@[expose] public section

set_option maxRecDepth 65536

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- Where the kernel's counted addresses lie. -/
theorem at_dev {n : ℕ} {h : n < nD} (k : Fin 7) (c : Dev nD) (e : n = (c.val + (k.val + 1)) % 8) : (⟨n, h⟩ : Dev nD) = rot k c :=
  Fin.ext (e.trans (by rw [rot_val, add_assoc]))
theorem at_off2 (c : Dev nD) (k : Fin 7) : k0_off2 c (BitVec.ofNat 32 (1 + k.val)) = ![512 * (rot k c).val, 0] := k0_off2_eq c k

/-- What a device needs to send a block, its destination's slot aside. -/
def xPre (c : Dev nD) (k : Fin 7) : sProp 𝕄 :=
  iprop(dutyTok ER (dmaC 0 k c) 0 0 ∗ dutyTok ER (dmaC 1 k (rot k c)) 0 0 ∗ xPts c (rot k c) (xOf m c))

/-- With the barrier behind it a device can send every block. -/
theorem xReady (c : Dev nD) :
    iprop(Owing c 7 0 0 ∗ (bigSep Finset.univ (xPre m c)) ∗ bigSep Finset.univ (dstX (F := F) c)) ⊢ sendsX m c 0 := by
  have h : iprop((bigSep Finset.univ (xPre m c)) ∗ bigSep Finset.univ (dstX (F := F) c)) ⊢ bigSep Finset.univ (xTok m c) := by
    have e : ∀ k, iprop(xPre m c k ∗ dstX (F := F) c k) ⊢ xTok m c k := fun k => by
      unfold xPre xTok
      iintro ⟨⟨A, B, C⟩, D⟩
      iframe A B C D
    rw [← bigSep_sep']
    exact bigSep_mono fun k _ => e k
  unfold sendsX
  rw [todo_zero, past_zero]
  iintro ⟨HO, HX, HD⟩
  ihave H := h $$ [$HX $HD]
  iframe HO H

theorem wp_done {α : Type} (c : Dev nD) (x : α) (Q : α → sProp 𝕄) : Q x ⊢ WP (F := F) c (.ret x) Q := by
  unfold WP
  rw [wp_ret]
  iintro H
  imodintro
  iexact H

/-- The first five signals. -/
theorem part1_wp (c : Dev nD) {Q : (Σ' (d0 : Dev nD) (v2 : BitVec 32) (v3 : Sems sig S_) (v24 : BitVec 32), BitVec 32) → sProp 𝕄} :
    iprop(know m K ∗ sigs (F := F) c 0)
      ⊢ iprop((∀ v2 v24 w, sigs (F := F) c 5 -∗ Q ⟨c, v2, SemArray.scalar (sig.barrier 0 rfl), v24, w⟩)
        -∗ WP c (k0_part1 (F := F) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6) Q) := by
  rw [k0_part1_eq_skeleton]
  unfold k0_part1_skel
  simp only [semSignalWord, semWaitWord, Prog.lift, Prog.bind_op, Prog.bind_ret, Prog.pure_eq_ret, wp_deviceId, wp_ret]
  iintro ⟨#HK, HS⟩ Hk
  iapply (do_signal m K c 0 (at_dev 0 c (k0_dev1_eq c)) (by decide) rfl rfl) $$ [$HK $HS]
  iintro HS
  iapply (do_signal m K c 1 (at_dev 1 c (k0_dev2_eq c)) (by decide) rfl rfl) $$ [$HK $HS]
  iintro HS
  iapply (do_signal m K c 2 (at_dev 2 c (k0_dev3_eq c)) (by decide) rfl rfl) $$ [$HK $HS]
  iintro HS
  iapply (do_signal m K c 3 (at_dev 3 c (k0_dev4_eq c)) (by decide) rfl rfl) $$ [$HK $HS]
  iintro HS
  iapply (do_signal m K c 4 (at_dev 4 c (k0_dev5_eq c)) (by decide) rfl rfl) $$ [$HK $HS]
  iintro HS
  iapply (wp_done c _ Q)
  iapply Hk
  iexact HS

/-- The last two signals, the barrier, the first block. -/
theorem part2_wp (c : Dev nD) (v2 v24 w : BitVec 32) {Q : PUnit → sProp 𝕄} :
    iprop(know m K ∗ sigs (F := F) c 5 ∗ cred (tallyAt (barC c) () 7) ∗ atPos ER (barC c) 0 ∅ 0 ∗ bigSep Finset.univ (xPre m c))
      ⊢ iprop(((sendsX m c 1 ∗ semVal (barC c) 0 ∗ bigSep Finset.univ (dstA (F := F) c)) -∗ Q ⟨⟩)
        -∗ WP c (k0_part2 (F := F) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 c v2 (SemArray.scalar (sig.barrier 0 rfl)) v24 w) Q) := by
  rw [k0_part2_eq_skeleton]
  unfold k0_part2_skel
  simp only [semSignalWord, semWaitWord, Prog.lift, Prog.bind_op, Prog.bind_ret, Prog.pure_eq_ret, wp_deviceId, wp_ret]
  iintro ⟨#HK, HS, Hc, Hat, HX⟩ Hk
  iapply (do_signal m K c 5 (at_dev 5 c (k0_dev6_eq c)) (by decide) rfl rfl) $$ [$HK $HS]
  iintro HS
  iapply (do_signal m K c 6 (at_dev 6 c (k0_dev7_eq c)) (by decide) rfl rfl) $$ [$HK $HS]
  iintro HS
  iapply (do_barrier m K c (by decide)) $$ [$HK $HS $Hc $Hat]
  iintro ⟨HO, Hz, HdX, HdA⟩
  ihave HX := (xReady m c) $$ [$HO $HX $HdX]
  iapply (do_sendX m K c 0 (at_dev 0 c (k0_dev8_eq c)) rfl rfl (k0_off1_eq c) (at_off2 c 0) rfl rfl) $$ [$HK $HX]
  iintro HX
  iapply (wp_done c _ Q)
  iapply Hk
  iframe HX Hz HdA

/-- Three more blocks. -/
theorem part3_wp (c : Dev nD) (v2 : BitVec 32) {Q : BitVec 32 → sProp 𝕄} :
    iprop(know m K ∗ sendsX m c 1)
      ⊢ iprop((∀ v, sendsX m c 4 -∗ Q v)
        -∗ WP c (k0_part3 (F := F) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 c v2) Q) := by
  rw [k0_part3_eq_skeleton]
  unfold k0_part3_skel
  simp only [semSignalWord, semWaitWord, Prog.lift, Prog.bind_op, Prog.bind_ret, Prog.pure_eq_ret, wp_deviceId, wp_ret]
  iintro ⟨#HK, HX⟩ Hk
  iapply (do_sendX m K c 1 (at_dev 1 c (k0_dev9_eq c)) rfl rfl (k0_off1_eq c) (at_off2 c 1) rfl rfl) $$ [$HK $HX]
  iintro HX
  iapply (do_sendX m K c 2 (at_dev 2 c (k0_dev10_eq c)) rfl rfl (k0_off1_eq c) (at_off2 c 2) rfl rfl) $$ [$HK $HX]
  iintro HX
  iapply (do_sendX m K c 3 (at_dev 3 c (k0_dev11_eq c)) rfl rfl (k0_off1_eq c) (at_off2 c 3) rfl rfl) $$ [$HK $HX]
  iintro HX
  iapply (wp_done c _ Q)
  iapply Hk
  iexact HX

/-- Two more blocks. -/
theorem part4_wp (c : Dev nD) (v2 v81 : BitVec 32) {Q : PUnit → sProp 𝕄} :
    iprop(know m K ∗ sendsX m c 4)
      ⊢ iprop(((sendsX m c 6) -∗ Q ⟨⟩)
        -∗ WP c (k0_part4 (F := F) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 c v2 v81) Q) := by
  rw [k0_part4_eq_skeleton]
  unfold k0_part4_skel
  simp only [semSignalWord, semWaitWord, Prog.lift, Prog.bind_op, Prog.bind_ret, Prog.pure_eq_ret, wp_deviceId, wp_ret]
  iintro ⟨#HK, HX⟩ Hk
  iapply (do_sendX m K c 4 (at_dev 4 c (k0_dev12_eq c)) rfl rfl (k0_off1_eq c) (at_off2 c 4) rfl rfl) $$ [$HK $HX]
  iintro HX
  iapply (do_sendX m K c 5 (at_dev 5 c (k0_dev13_eq c)) rfl rfl (k0_off1_eq c) (at_off2 c 5) rfl rfl) $$ [$HK $HX]
  iintro HX
  iapply (wp_done c _ Q)
  iapply Hk
  iexact HX

end Cert.AllToAll
-- ==== Proof.Products.lean ====
/- The kernel's products: the device's own block, then each block as it lands, summed in the result buffer; then the maxima. -/
module

public import proofs.«01_k».proof.Proof.Signals

@[expose] public section

set_option maxRecDepth 65536

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- Where the blocks waited for lie. -/
theorem at_off5 (c : Dev nD) (k : Fin 7) : k0_off5 c (BitVec.ofNat 32 (1 + (Fin.rev k).val)) = ![(rotB k c).val, 0, 0] := by
  rw [rotB_eq_rot_rev]; exact k0_off5_eq c (Fin.rev k)
theorem at_off6 (c : Dev nD) (k : Fin 7) : k0_off6 c (BitVec.ofNat 32 (1 + (Fin.rev k).val)) = ![(rotB k c).val, 0, 0] := by
  rw [rotB_eq_rot_rev]; exact k0_off6_eq c (Fin.rev k)
theorem at_off7 (c : Dev nD) (k : Fin 7) : k0_off7 c (BitVec.ofNat 32 (1 + (Fin.rev k).val)) = ![512 * (rotB k c).val, 0] := by
  rw [rotB_eq_rot_rev]; exact k0_off7_eq c (Fin.rev k)

/-- All blocks sent, the arrivals can be waited for. -/
theorem xSent (c : Dev nD) :
    iprop(sendsX m c 7 ∗ bigSep Finset.univ (wTok (F := F) 1 c)) ⊢ iprop(waits m 1 c 0 0 ∗ bigSep Finset.univ (dCred (F := F) 0 c)) := by
  unfold sendsX waits
  rw [todo_zero, past_zero, todo_end, past_end]
  iintro ⟨⟨HO, -, HP⟩, HT⟩
  iframe HO HT HP

/-- The accumulator over its staging buffer: one more block's product. -/
theorem store_acc (c : Dev nD) (f w w' : S512x2048.Idx → Elt F .f32) (h : w = w') {i : ∀ a, (![0, 0] : Fin 2 → ℕ) a + S512x2048.size a ≤ S512x2048.size a} {hl hm}
    {α : Type} {Q : α → sProp 𝕄} {g : PUnit → Prog (TpuEff nD τ sig (Elt F) Λ₀ .tc) α} :
    oPts c f ⊢ iprop((oPts c w' -∗ WP c (g ⟨⟩) Q)
      -∗ WP c (.op (.store (Memref.whole cc0_stg2_0) (Rect.unit (s := S512x2048) ![0, 0] S512x2048.size i) w Finset.univ hl hm) g) Q) := by
  subst h
  exact store_o c f w

/-- The last block; the device's own product; the first arrival's. -/
theorem part5_wp (c : Dev nD) (v2 : BitVec 32) {Q : FVec F S512x2048 .f32 → sProp 𝕄} :
    iprop(know m K ∗ sendsX m c 6 ∗ xPts c c (xOf m c) ∗ wPts m c ∗ (∃ f, oPts (F := F) c f) ∗ bigSep Finset.univ (wTok (F := F) 1 c))
      ⊢ iprop((waits m 1 c 0 1 ∗ xPts c c (xOf m c) ∗ wPts m c ∗ oPts c (acc m c 0) ∗ bigSep Finset.univ (dCred (F := F) 0 c) -∗ Q (acc m c 1))
        -∗ WP c (k0_part5 (F := F) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 c v2) Q) := by
  rw [k0_part5_eq_skeleton]
  unfold k0_part5_skel
  simp only [semSignalWord, semWaitWord, Prog.lift, Prog.bind_op, Prog.bind_ret, Prog.pure_eq_ret, wp_deviceId, wp_ret]
  iintro ⟨#HK, HX, Hx, Hw, ⟨%f, Ho⟩, HT⟩ Hk
  iapply (do_sendX m K c 6 (at_dev 6 c (k0_dev14_eq c)) rfl rfl (k0_off1_eq c) (at_off2 c 6) rfl rfl) $$ [$HK $HX]
  iintro HX
  iapply (load_x m c c (k0_off3_eq c)) $$ Hx
  iintro Hx
  iapply (load_w m c c (k0_off4_eq c)) $$ Hw
  iintro Hw
  iapply (load_o c f) $$ Ho
  iintro Ho
  iapply (store_acc c f _ (acc m c 0) (rfl)) $$ Ho
  iintro Ho
  ihave ⟨HW, HC⟩ := (xSent m c) $$ [$HX $HT]
  iapply (do_wait m K 1 c 0 (Or.inr rfl) rfl rfl rfl credit_xg) $$ [$HK $HW]
  iintro HW
  iapply (load_o c (acc m c 0)) $$ Ho
  iintro Ho
  iapply (load_xg m c 0 rfl (at_off6 c 0)) $$ HW
  iintro HW
  iapply (load_w m c (rotB 0 c) (at_off7 c 0)) $$ Hw
  iintro Hw
  iapply (load_o c (acc m c 0)) $$ Ho
  iintro Ho
  iapply (wp_done c _ Q)
  have e : k0_pay3 (acc m c 0) (xSlot m c (rotB 0 c)) (wBlk m c (rotB 0 c)) = acc m c 1 := (acc_succ m c 0).symm
  rw [e]
  iapply Hk
  iframe HW Hx Hw Ho HC

/-- The second arrival. -/
theorem part6_wp (c : Dev nD) (v2 : BitVec 32) {Q : BitVec 32 → sProp 𝕄} :
    iprop(know m K ∗ waits m 1 c 0 1 ∗ wPts m c ∗ oPts c (acc m c 0))
      ⊢ iprop((∀ v, waits m 1 c 0 2 ∗ wPts m c ∗ oPts c (acc m c 2) -∗ Q v)
        -∗ WP c (k0_part6 (F := F) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 c v2 (acc m c 1)) Q) := by
  rw [k0_part6_eq_skeleton]
  unfold k0_part6_skel
  simp only [semSignalWord, semWaitWord, Prog.lift, Prog.bind_op, Prog.bind_ret, Prog.pure_eq_ret, wp_deviceId, wp_ret]
  iintro ⟨#HK, HW, Hw, Ho⟩ Hk
  iapply (store_acc c (acc m c 0) _ (acc m c 1) (rfl)) $$ Ho
  iintro Ho
  iapply (do_wait m K 1 c 1 (Or.inr rfl) rfl rfl rfl credit_xg) $$ [$HK $HW]
  iintro HW
  iapply (load_o c (acc m c 1)) $$ Ho
  iintro Ho
  iapply (load_xg m c 1 rfl (at_off6 c 1)) $$ HW
  iintro HW
  iapply (load_w m c (rotB 1 c) (at_off7 c 1)) $$ Hw
  iintro Hw
  iapply (load_o c (acc m c 1)) $$ Ho
  iintro Ho
  iapply (store_acc c (acc m c 1) _ (acc m c 2) ((acc_succ m c 1).symm)) $$ Ho
  iintro Ho
  iapply (wp_done c _ Q)
  iapply Hk
  iframe HW Hw Ho

/-- The third arrival, and the fourth read. -/
theorem part7_wp (c : Dev nD) (v2 v169 : BitVec 32) {Q : (Σ' (v199 : FVec F S512x2048 .f32) (v202 : FVec F S512x512 .f32), FVec F S512x2048 .f32) → sProp 𝕄} :
    iprop(know m K ∗ waits m 1 c 0 2 ∗ wPts m c ∗ oPts c (acc m c 2))
      ⊢ iprop((waits m 1 c 0 4 ∗ wPts m c ∗ oPts c (acc m c 3) -∗ Q ⟨k0_pay6 (acc m c 3), k0_pay7 (xSlot m c (rotB 3 c)), k0_pay8 (wBlk m c (rotB 3 c))⟩)
        -∗ WP c (k0_part7 (F := F) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 c v2 v169) Q) := by
  rw [k0_part7_eq_skeleton]
  unfold k0_part7_skel
  simp only [semSignalWord, semWaitWord, Prog.lift, Prog.bind_op, Prog.bind_ret, Prog.pure_eq_ret, wp_deviceId, wp_ret]
  iintro ⟨#HK, HW, Hw, Ho⟩ Hk
  iapply (do_wait m K 1 c 2 (Or.inr rfl) rfl rfl rfl credit_xg) $$ [$HK $HW]
  iintro HW
  iapply (load_o c (acc m c 2)) $$ Ho
  iintro Ho
  iapply (load_xg m c 2 rfl (at_off6 c 2)) $$ HW
  iintro HW
  iapply (load_w m c (rotB 2 c) (at_off7 c 2)) $$ Hw
  iintro Hw
  iapply (load_o c (acc m c 2)) $$ Ho
  iintro Ho
  iapply (store_acc c (acc m c 2) _ (acc m c 3) ((acc_succ m c 2).symm)) $$ Ho
  iintro Ho
  iapply (do_wait m K 1 c 3 (Or.inr rfl) rfl rfl rfl credit_xg) $$ [$HK $HW]
  iintro HW
  iapply (load_o c (acc m c 3)) $$ Ho
  iintro Ho
  iapply (load_xg m c 3 rfl (at_off6 c 3)) $$ HW
  iintro HW
  iapply (load_w m c (rotB 3 c) (at_off7 c 3)) $$ Hw
  iintro Hw
  iapply (wp_done c _ Q)
  iapply Hk
  iframe HW Hw Ho

/-- The fourth and fifth. -/
theorem part8_wp (c : Dev nD) (v2 : BitVec 32) {Q : BitVec 32 → sProp 𝕄} :
    iprop(know m K ∗ waits m 1 c 0 4 ∗ wPts m c ∗ oPts c (acc m c 3))
      ⊢ iprop((∀ v, waits m 1 c 0 5 ∗ wPts m c ∗ oPts c (acc m c 5) -∗ Q v)
        -∗ WP c (k0_part8 (F := F) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 c v2 (k0_pay6 (acc m c 3)) (k0_pay7 (xSlot m c (rotB 3 c))) (k0_pay8 (wBlk m c (rotB 3 c)))) Q) := by
  rw [k0_part8_eq_skeleton]
  unfold k0_part8_skel
  simp only [semSignalWord, semWaitWord, Prog.lift, Prog.bind_op, Prog.bind_ret, Prog.pure_eq_ret, wp_deviceId, wp_ret]
  iintro ⟨#HK, HW, Hw, Ho⟩ Hk
  iapply (load_o c (acc m c 3)) $$ Ho
  iintro Ho
  iapply (store_acc c (acc m c 3) _ (acc m c 4) ((acc_succ m c 3).symm)) $$ Ho
  iintro Ho
  iapply (do_wait m K 1 c 4 (Or.inr rfl) rfl rfl rfl credit_xg) $$ [$HK $HW]
  iintro HW
  iapply (load_o c (acc m c 4)) $$ Ho
  iintro Ho
  iapply (load_xg m c 4 rfl (at_off6 c 4)) $$ HW
  iintro HW
  iapply (load_w m c (rotB 4 c) (at_off7 c 4)) $$ Hw
  iintro Hw
  iapply (load_o c (acc m c 4)) $$ Ho
  iintro Ho
  iapply (store_acc c (acc m c 4) _ (acc m c 5) ((acc_succ m c 4).symm)) $$ Ho
  iintro Ho
  iapply (wp_done c _ Q)
  iapply Hk
  iframe HW Hw Ho

/-- The sixth, and the seventh read. -/
theorem part9_wp (c : Dev nD) (v2 v232 : BitVec 32) {Q : (Σ' (v253 : BitVec 32) (v262 : FVec F S512x2048 .f32), FVec F S512x512 .f32) → sProp 𝕄} :
    iprop(know m K ∗ waits m 1 c 0 5 ∗ wPts m c ∗ oPts c (acc m c 5))
      ⊢ iprop((∀ v, waits m 1 c 0 7 ∗ wPts m c ∗ oPts c (acc m c 6) -∗ Q ⟨v, k0_pay12 (acc m c 6), k0_pay13 (xSlot m c (rotB 6 c))⟩)
        -∗ WP c (k0_part9 (F := F) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 c v2 v232) Q) := by
  rw [k0_part9_eq_skeleton]
  unfold k0_part9_skel
  simp only [semSignalWord, semWaitWord, Prog.lift, Prog.bind_op, Prog.bind_ret, Prog.pure_eq_ret, wp_deviceId, wp_ret]
  iintro ⟨#HK, HW, Hw, Ho⟩ Hk
  iapply (do_wait m K 1 c 5 (Or.inr rfl) rfl rfl rfl credit_xg) $$ [$HK $HW]
  iintro HW
  iapply (load_o c (acc m c 5)) $$ Ho
  iintro Ho
  iapply (load_xg m c 5 rfl (at_off6 c 5)) $$ HW
  iintro HW
  iapply (load_w m c (rotB 5 c) (at_off7 c 5)) $$ Hw
  iintro Hw
  iapply (load_o c (acc m c 5)) $$ Ho
  iintro Ho
  iapply (store_acc c (acc m c 5) _ (acc m c 6) ((acc_succ m c 5).symm)) $$ Ho
  iintro Ho
  iapply (do_wait m K 1 c 6 (Or.inr rfl) rfl rfl rfl credit_xg) $$ [$HK $HW]
  iintro HW
  iapply (load_o c (acc m c 6)) $$ Ho
  iintro Ho
  iapply (load_xg m c 6 rfl (at_off6 c 6)) $$ HW
  iintro HW
  iapply (wp_done c _ Q)
  iapply Hk
  iframe HW Hw Ho

/-- The seventh; the negative entries dropped; the largest entry into the device's tile and its slot. -/
theorem part10_wp (c : Dev nD) (v2 v253 : BitVec 32) {Q : PUnit → sProp 𝕄} :
    iprop(know m K ∗ wPts m c ∗ oPts c (acc m c 6) ∗ (∃ f, tPts (F := F) c f) ∗ (∃ f, rxPts (F := F) c c f))
      ⊢ iprop(((wPts m c ∗ oPts c (reluOf m c) ∗ tPts c (amaxOf m c) ∗ rxPts c c (rxAll m)) -∗ Q ⟨⟩)
        -∗ WP c (k0_part10 (F := F) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 c v2 v253 (k0_pay12 (acc m c 6)) (k0_pay13 (xSlot m c (rotB 6 c)))) Q) := by
  rw [k0_part10_eq_skeleton]
  unfold k0_part10_skel
  simp only [semSignalWord, semWaitWord, Prog.lift, Prog.bind_op, Prog.bind_ret, Prog.pure_eq_ret, wp_deviceId, wp_ret]
  iintro ⟨#HK, Hw, Ho, ⟨%f, Ht⟩, ⟨%f', Hr⟩⟩ Hk
  iapply (load_w m c (rotB 6 c) (at_off7 c 6)) $$ Hw
  iintro Hw
  iapply (load_o c (acc m c 6)) $$ Ho
  iintro Ho
  iapply (store_acc c (acc m c 6) _ (acc m c 7) ((acc_succ m c 6).symm)) $$ Ho
  iintro Ho
  iapply (load_o c (acc m c 7)) $$ Ho
  iintro Ho
  iapply (load_o c (acc m c 7)) $$ Ho
  iintro Ho
  iapply (store_acc c (acc m c 7) _ (reluOf m c) (rfl)) $$ Ho
  iintro Ho
  iapply (load_t c f) $$ Ht
  iintro Ht
  iapply (store_t c f (amaxOf m c)) $$ Ht
  iintro Ht
  iapply (load_t c (amaxOf m c)) $$ Ht
  iintro Ht
  iapply (load_rx c (k0_off8_eq c) f') $$ Hr
  iintro %v Hr
  iapply (store_rx m c (k0_off8_eq c) f') $$ Hr
  iintro Hr
  iapply (wp_done c _ Q)
  iapply Hk
  iframe Hw Ho Ht Hr

end Cert.AllToAll
-- ==== Proof.Maxima.lean ====
/- The maxima exchanged, and every transfer waited for. -/
module

public import proofs.«01_k».proof.Proof.Products

@[expose] public section

set_option maxRecDepth 65536

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- All arrivals of one array waited for, the next array's can be. -/
theorem next_waits (a b : Fin 4) (c : Dev nD) (l : ℕ) :
    iprop(waits m a c l 7 ∗ bigSep Finset.univ (wTok (F := F) b c)) ⊢ iprop(waits m b c l 0 ∗ bigSep Finset.univ (wDone m a c)) := by
  unfold waits
  rw [todo_zero, past_zero, todo_end, past_end]
  iintro ⟨⟨HO, -, HP⟩, HT⟩
  iframe HO HT HP

/-- Three tiles sent. -/
theorem part11_wp (c : Dev nD) (v2 : BitVec 32) {Q : PUnit → sProp 𝕄} :
    iprop(know m K ∗ sendsA m c 0)
      ⊢ iprop(((sendsA m c 3) -∗ Q ⟨⟩)
        -∗ WP c (k0_part11 (F := F) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 c v2) Q) := by
  rw [k0_part11_eq_skeleton]
  unfold k0_part11_skel
  simp only [semSignalWord, semWaitWord, Prog.lift, Prog.bind_op, Prog.bind_ret, Prog.pure_eq_ret, wp_deviceId, wp_ret]
  iintro ⟨#HK, HA⟩ Hk
  iapply (do_sendA m K c 0 (at_dev 0 c (k0_dev15_eq c)) rfl rfl (k0_off9_eq c) rfl rfl) $$ [$HK $HA]
  iintro HA
  iapply (do_sendA m K c 1 (at_dev 1 c (k0_dev16_eq c)) rfl rfl (k0_off9_eq c) rfl rfl) $$ [$HK $HA]
  iintro HA
  iapply (do_sendA m K c 2 (at_dev 2 c (k0_dev17_eq c)) rfl rfl (k0_off9_eq c) rfl rfl) $$ [$HK $HA]
  iintro HA
  iapply (wp_done c _ Q)
  iapply Hk
  iframe HA

/-- Four more. -/
theorem part12_wp (c : Dev nD) (v2 : BitVec 32) {Q : PUnit → sProp 𝕄} :
    iprop(know m K ∗ sendsA m c 3)
      ⊢ iprop(((sendsA m c 7) -∗ Q ⟨⟩)
        -∗ WP c (k0_part12 (F := F) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 c v2) Q) := by
  rw [k0_part12_eq_skeleton]
  unfold k0_part12_skel
  simp only [semSignalWord, semWaitWord, Prog.lift, Prog.bind_op, Prog.bind_ret, Prog.pure_eq_ret, wp_deviceId, wp_ret]
  iintro ⟨#HK, HA⟩ Hk
  iapply (do_sendA m K c 3 (at_dev 3 c (k0_dev18_eq c)) rfl rfl (k0_off9_eq c) rfl rfl) $$ [$HK $HA]
  iintro HA
  iapply (do_sendA m K c 4 (at_dev 4 c (k0_dev19_eq c)) rfl rfl (k0_off9_eq c) rfl rfl) $$ [$HK $HA]
  iintro HA
  iapply (do_sendA m K c 5 (at_dev 5 c (k0_dev20_eq c)) rfl rfl (k0_off9_eq c) rfl rfl) $$ [$HK $HA]
  iintro HA
  iapply (do_sendA m K c 6 (at_dev 6 c (k0_dev21_eq c)) rfl rfl (k0_off9_eq c) rfl rfl) $$ [$HK $HA]
  iintro HA
  iapply (wp_done c _ Q)
  iapply Hk
  iframe HA

/-- Three tiles arrived. -/
theorem part13_wp (c : Dev nD) (v2 : BitVec 32) {Q : (Σ' (v388 : BitVec 32), BitVec 32) → sProp 𝕄} :
    iprop(know m K ∗ waits m 3 c 7 0)
      ⊢ iprop((∀ v w, waits m 3 c 7 3 -∗ Q ⟨v, w⟩)
        -∗ WP c (k0_part13 (F := F) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 c v2) Q) := by
  rw [k0_part13_eq_skeleton]
  unfold k0_part13_skel
  simp only [semSignalWord, semWaitWord, Prog.lift, Prog.bind_op, Prog.bind_ret, Prog.pure_eq_ret, wp_deviceId, wp_ret]
  iintro ⟨#HK, HW⟩ Hk
  iapply (do_wait m K 3 c 0 (Or.inl rfl) rfl rfl rfl credit_rx) $$ [$HK $HW]
  iintro HW
  iapply (do_wait m K 3 c 1 (Or.inl rfl) rfl rfl rfl credit_rx) $$ [$HK $HW]
  iintro HW
  iapply (do_wait m K 3 c 2 (Or.inl rfl) rfl rfl rfl credit_rx) $$ [$HK $HW]
  iintro HW
  iapply (wp_done c _ Q)
  iapply Hk
  iframe HW

/-- Four more. -/
theorem part14_wp (c : Dev nD) (v2 v w : BitVec 32) {Q : PUnit → sProp 𝕄} :
    iprop(know m K ∗ waits m 3 c 7 3)
      ⊢ iprop(((waits m 3 c 7 7) -∗ Q ⟨⟩)
        -∗ WP c (k0_part14 (F := F) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 c v2 v w) Q) := by
  rw [k0_part14_eq_skeleton]
  unfold k0_part14_skel
  simp only [semSignalWord, semWaitWord, Prog.lift, Prog.bind_op, Prog.bind_ret, Prog.pure_eq_ret, wp_deviceId, wp_ret]
  iintro ⟨#HK, HW⟩ Hk
  iapply (do_wait m K 3 c 3 (Or.inl rfl) rfl rfl rfl credit_rx) $$ [$HK $HW]
  iintro HW
  iapply (do_wait m K 3 c 4 (Or.inl rfl) rfl rfl rfl credit_rx) $$ [$HK $HW]
  iintro HW
  iapply (do_wait m K 3 c 5 (Or.inl rfl) rfl rfl rfl credit_rx) $$ [$HK $HW]
  iintro HW
  iapply (do_wait m K 3 c 6 (Or.inl rfl) rfl rfl rfl credit_rx) $$ [$HK $HW]
  iintro HW
  iapply (wp_done c _ Q)
  iapply Hk
  iframe HW

/-- Six tiles read. -/
theorem part15_wp (c : Dev nD) {Q : PUnit → sProp 𝕄} :
    iprop(know m K ∗ waits m 2 c 7 0)
      ⊢ iprop(((waits m 2 c 7 6) -∗ Q ⟨⟩)
        -∗ WP c (k0_part15 (F := F) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 c) Q) := by
  rw [k0_part15_eq_skeleton]
  unfold k0_part15_skel
  simp only [semSignalWord, semWaitWord, Prog.lift, Prog.bind_op, Prog.bind_ret, Prog.pure_eq_ret, wp_deviceId, wp_ret]
  iintro ⟨#HK, HW⟩ Hk
  iapply (do_wait m K 2 c 0 (Or.inl rfl) rfl rfl rfl credit_tx) $$ [$HK $HW]
  iintro HW
  iapply (do_wait m K 2 c 1 (Or.inl rfl) rfl rfl rfl credit_tx) $$ [$HK $HW]
  iintro HW
  iapply (do_wait m K 2 c 2 (Or.inl rfl) rfl rfl rfl credit_tx) $$ [$HK $HW]
  iintro HW
  iapply (do_wait m K 2 c 3 (Or.inl rfl) rfl rfl rfl credit_tx) $$ [$HK $HW]
  iintro HW
  iapply (do_wait m K 2 c 4 (Or.inl rfl) rfl rfl rfl credit_tx) $$ [$HK $HW]
  iintro HW
  iapply (do_wait m K 2 c 5 (Or.inl rfl) rfl rfl rfl credit_tx) $$ [$HK $HW]
  iintro HW
  iapply (wp_done c _ Q)
  iapply Hk
  iframe HW

/-- The seventh, and four blocks read. -/
theorem part16_wp (c : Dev nD) {Q : PUnit → sProp 𝕄} :
    iprop(know m K ∗ waits m 2 c 7 6 ∗ bigSep Finset.univ (wTok (F := F) 0 c))
      ⊢ iprop(((waits m 0 c 7 4 ∗ bigSep Finset.univ (wDone m 2 c)) -∗ Q ⟨⟩)
        -∗ WP c (k0_part16 (F := F) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6 c) Q) := by
  rw [k0_part16_eq_skeleton]
  unfold k0_part16_skel
  simp only [semSignalWord, semWaitWord, Prog.lift, Prog.bind_op, Prog.bind_ret, Prog.pure_eq_ret, wp_deviceId, wp_ret]
  iintro ⟨#HK, HW, HT⟩ Hk
  iapply (do_wait m K 2 c 6 (Or.inl rfl) rfl rfl rfl credit_tx) $$ [$HK $HW]
  iintro HW
  ihave ⟨HW, HD⟩ := (next_waits m 2 0 c 7) $$ [$HW $HT]
  iapply (do_wait m K 0 c 0 (Or.inl rfl) rfl rfl rfl credit_x) $$ [$HK $HW]
  iintro HW
  iapply (do_wait m K 0 c 1 (Or.inl rfl) rfl rfl rfl credit_x) $$ [$HK $HW]
  iintro HW
  iapply (do_wait m K 0 c 2 (Or.inl rfl) rfl rfl rfl credit_x) $$ [$HK $HW]
  iintro HW
  iapply (do_wait m K 0 c 3 (Or.inl rfl) rfl rfl rfl credit_x) $$ [$HK $HW]
  iintro HW
  iapply (wp_done c _ Q)
  iapply Hk
  iframe HW HD

end Cert.AllToAll
-- ==== Proof.Body.lean ====
/- The whole kernel on one device: its parts in order. -/
module

public import proofs.«01_k».proof.Proof.Maxima

@[expose] public section

set_option maxRecDepth 65536

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- A device's place at a transfer's cell. -/
def pos (a : Fin 4) (c : Dev nD) (k : Fin 7) : sProp 𝕄 := atPos ER (dmaC a k c) 0 ∅ 0
/-- What a device needs to send its tile, the tile and the destination's slot aside. -/
def aPre (c : Dev nD) (k : Fin 7) : sProp 𝕄 :=
  iprop(dutyTok ER (dmaC 2 k c) 0 0 ∗ dutyTok ER (dmaC 3 k (rot k c)) 0 0)

/-- A tile held whole is eight equal shares of it. -/
theorem tile_shares (c : Dev nD) (f : S8x128.Idx → Elt F .f32) :
    tPts c f = iprop(txPts c (Fin.last 7) f ∗ bigSep Finset.univ fun k : Fin 7 => txPts c (Fin.castSucc k) f) := by
  have h : tPts c f = bigSep Finset.univ fun k : Fin 8 => txPts (F := F) c k f :=
    ShareLeaves.pointsTo_leaves (ℓ := (c : Thread nD τ).loc cc0_scratch1) Finset.univ f 3 fullShare
  rw [h, bigSep_univ_equiv finSuccEquivLast.symm, bigSep_option]
  simp only [finSuccEquivLast_symm_none, finSuccEquivLast_symm_some]

/-- The landing buffer for maxima held whole is the device's own slot and its seven arrivals. -/
theorem rx_slots (c : Dev nD) (f : S8x8x128.Idx → Elt F .f32) :
    rPts c f = iprop(rxPts c c f ∗ bigSep Finset.univ fun k : Fin 7 => rxPts c (rotB k c) f) := by
  have h : rPts c f = bigSep Finset.univ fun d : Dev nD => rxPts (F := F) c d f :=
    Ring.pointsTo_blocks (ℓ := (c : Thread nD τ).loc cc0_scratch2) rxI rx_disj rx_cover f
  rw [h, by_seenB c]

/-- With the maximum in its tile, and all blocks arrived, a device can send every tile. -/
theorem aReady (c : Dev nD) :
    iprop(waits m 1 c 0 7 ∗ tPts c (amaxOf m c) ∗ (bigSep Finset.univ (aPre (F := F) c)) ∗ bigSep Finset.univ (dstA (F := F) c))
      ⊢ iprop(sendsA m c 0 ∗ txPts c (Fin.last 7) (amaxOf m c) ∗ bigSep Finset.univ (wDone m 1 c)) := by
  have h : iprop((bigSep Finset.univ (aPre (F := F) c)) ∗ (bigSep Finset.univ fun k : Fin 7 => txPts c (Fin.castSucc k) (amaxOf m c)) ∗ bigSep Finset.univ (dstA (F := F) c))
      ⊢ bigSep Finset.univ (aTok m c) := by
    have e : ∀ k, iprop(aPre (F := F) c k ∗ txPts c (Fin.castSucc k) (amaxOf m c) ∗ dstA (F := F) c k) ⊢ aTok m c k := fun k => by
      unfold aPre aTok
      iintro ⟨⟨A, B⟩, C, D⟩
      iframe A B C D
    rw [← bigSep_sep', ← bigSep_sep']
    exact bigSep_mono fun k _ => e k
  unfold sendsA waits
  rw [todo_zero, past_zero, todo_end, past_end, tile_shares]
  iintro ⟨⟨HO, -, HP⟩, ⟨HL, HT⟩, HA, HD⟩
  ihave H := h $$ [$HA $HT $HD]
  iframe HO HL HP H

/-- All tiles sent, their arrivals can be waited for. -/
theorem aSent (c : Dev nD) :
    iprop(sendsA m c 7 ∗ bigSep Finset.univ (wTok (F := F) 3 c)) ⊢ iprop(waits m 3 c 7 0 ∗ bigSep Finset.univ (dCred (F := F) 2 c)) := by
  unfold sendsA waits
  rw [todo_zero, past_zero, todo_end, past_end]
  iintro ⟨⟨HO, -, HP⟩, HT⟩
  iframe HO HT HP

/-- A send's credit and the place at its cell. -/
theorem wToks (a : Fin 4) (c : Dev nD) :
    iprop((bigSep Finset.univ (pos (F := F) a c)) ∗ bigSep Finset.univ (dCred (F := F) a c)) ⊢ bigSep Finset.univ (wTok (F := F) a c) := by
  have e : ∀ k, iprop(pos (F := F) a c k ∗ dCred (F := F) a c k) ⊢ wTok (F := F) a c k := fun k => by
    unfold pos wTok
    iintro ⟨A, B⟩
    iframe A B
  rw [← bigSep_sep']
  exact bigSep_mono fun k _ => e k

/-- The counters of one array of cells, closed. -/
def closed (a : Fin 4) (c : Dev nD) : sProp 𝕄 := bigSep Finset.univ fun k : Fin 7 => semVal (dmaC a k c) 0

/-- All tiles arrived, the landing buffer is whole. -/
theorem rxWhole (c : Dev nD) :
    iprop(rxPts c c (rxAll m) ∗ bigSep Finset.univ (wDone m 3 c)) ⊢ iprop(rPts c (rxAll m) ∗ closed (F := F) 3 c) := by
  have e : (bigSep Finset.univ (wDone m 3 c) : sProp 𝕄)
      = iprop((bigSep Finset.univ fun k : Fin 7 => rxPts c (rotB k c) (rxAll m)) ∗ closed (F := F) 3 c) := by
    unfold closed
    rw [← bigSep_sep']
    rfl
  rw [e, rx_slots]
  iintro ⟨A, B, C⟩
  iframe A B C

/-- The last waits' end. -/
theorem waits_over (a : Fin 4) (c : Dev nD) (l : ℕ) : waits m a c l 7 ⊢ iprop(Owing c 7 7 l ∗ bigSep Finset.univ (wDone m a c)) := by
  unfold waits
  rw [todo_end, past_end]
  iintro ⟨HO, -, HP⟩
  iframe HO HP

/-- A program's first step, then the rest. -/
theorem wp_seq {α β : Type} (c : Dev nD) (p : Prog (TpuEff nD τ sig (Elt F) Λ₀ .tc) β) (k : β → Prog (TpuEff nD τ sig (Elt F) Λ₀ .tc) α) (Q : α → sProp 𝕄) :
    WP c p (fun a => WP c (k a) Q) ⊢ WP c (p >>= k) Q := by
  unfold WP
  rw [wp_bind]

/-- What the kernel starts from on device `c`; -/
def bodyIn (c : Dev nD) : sProp 𝕄 :=
  iprop(sigs (F := F) c 0 ∗ cred (tallyAt (barC c) () 7) ∗ atPos ER (barC c) 0 ∅ 0 ∗ (bigSep Finset.univ (xPre m c)) ∗ xPts c c (xOf m c) ∗ wPts m c
    ∗ (∃ f, oPts (F := F) c f) ∗ (bigSep Finset.univ (wTok (F := F) 1 c)) ∗ (∃ f, tPts (F := F) c f) ∗ (∃ f, rxPts (F := F) c c f)
    ∗ (bigSep Finset.univ (aPre (F := F) c)) ∗ (bigSep Finset.univ (wTok (F := F) 3 c)) ∗ (bigSep Finset.univ (pos (F := F) 0 c)) ∗ bigSep Finset.univ (pos (F := F) 2 c))
/-- and what it ends with. -/
def bodyOut (c : Dev nD) : sProp 𝕄 :=
  iprop(Owing (F := F) c 7 7 7 ∗ xPts c c (xOf m c) ∗ wPts m c ∗ oPts c (outOf m c) ∗ semVal (barC c) 0 ∗ txPts c (Fin.last 7) (amaxOf m c) ∗ rPts c (rxAll m)
    ∗ closed (F := F) 3 c ∗ (bigSep Finset.univ (wDone m 0 c)) ∗ (bigSep Finset.univ (wDone m 1 c)) ∗ bigSep Finset.univ (wDone m 2 c))

/-- All but the last loads and the store: the scale. -/
theorem part17_wp (c : Dev nD) {Q : F .f32 → sProp 𝕄} :
    iprop(know m K ∗ bodyIn m c)
      ⊢ iprop((Owing (F := F) c 7 7 7 ∗ xPts c c (xOf m c) ∗ wPts m c ∗ oPts c (reluOf m c) ∗ semVal (barC c) 0 ∗ txPts c (Fin.last 7) (amaxOf m c) ∗ rPts c (rxAll m)
    ∗ closed (F := F) 3 c ∗ (bigSep Finset.univ (wDone m 0 c)) ∗ (bigSep Finset.univ (wDone m 1 c)) ∗ (bigSep Finset.univ (wDone m 2 c)) -∗ Q (k0_pay18 (rxAll m)))
        -∗ WP c (k0_part17 (F := F) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6) Q) := by
  rw [k0_part17_eq_skeleton]
  unfold k0_part17_skel
  simp only [Prog.lift, Prog.bind_op, Prog.bind_ret, Prog.pure_eq_ret]
  unfold bodyIn
  iintro ⟨#HK, HS, Hc, Hat, HX, Hx, Hw, Ho, HT1, Ht, Hr, HA, HT3, HP0, HP2⟩ Hk
  iapply (wp_seq c)
  iapply (part1_wp m K c) $$ [$HK $HS]
  iintro %v2 %v24 %w HS
  iapply (wp_seq c)
  iapply (part2_wp m K c _ _ _) $$ [$HK $HS $Hc $Hat $HX]
  iintro ⟨HX, Hz, HdA⟩
  iapply (wp_seq c)
  iapply (part3_wp m K c _) $$ [$HK $HX]
  iintro %v81 HX
  iapply (wp_seq c)
  iapply (part4_wp m K c _ _) $$ [$HK $HX]
  iintro HX
  iapply (wp_seq c)
  iapply (part5_wp m K c _) $$ [$HK $HX $Hx $Hw $Ho $HT1]
  iintro ⟨HW, Hx, Hw, Ho, HC0⟩
  iapply (wp_seq c)
  iapply (part6_wp m K c _) $$ [$HK $HW $Hw $Ho]
  iintro %v169 ⟨HW, Hw, Ho⟩
  iapply (wp_seq c)
  iapply (part7_wp m K c _ _) $$ [$HK $HW $Hw $Ho]
  iintro ⟨HW, Hw, Ho⟩
  iapply (wp_seq c)
  iapply (part8_wp m K c _) $$ [$HK $HW $Hw $Ho]
  iintro %v232 ⟨HW, Hw, Ho⟩
  iapply (wp_seq c)
  iapply (part9_wp m K c _ _) $$ [$HK $HW $Hw $Ho]
  iintro %v253 ⟨HW, Hw, Ho⟩
  iapply (wp_seq c)
  iapply (part10_wp m K c _ _) $$ [$HK $Hw $Ho $Ht $Hr]
  iintro ⟨Hw, Ho, Ht, Hr⟩
  ihave ⟨HA, HL, HD1⟩ := (aReady m c) $$ [$HW $Ht $HA $HdA]
  iapply (wp_seq c)
  iapply (part11_wp m K c _) $$ [$HK $HA]
  iintro HA
  iapply (wp_seq c)
  iapply (part12_wp m K c _) $$ [$HK $HA]
  iintro HA
  ihave ⟨HW, HC2⟩ := (aSent m c) $$ [$HA $HT3]
  ihave HT2 := (wToks 2 c) $$ [$HP2 $HC2]
  ihave HT0 := (wToks 0 c) $$ [$HP0 $HC0]
  iapply (wp_seq c)
  iapply (part13_wp m K c _) $$ [$HK $HW]
  iintro %v388 %c0 HW
  iapply (wp_seq c)
  iapply (part14_wp m K c _ _ _) $$ [$HK $HW]
  iintro HW
  ihave ⟨HW, HD3⟩ := (next_waits m 3 2 c 7) $$ [$HW $HT2]
  iapply (wp_seq c)
  iapply (part15_wp m K c) $$ [$HK $HW]
  iintro HW
  iapply (wp_seq c)
  iapply (part16_wp m K c) $$ [$HK $HW $HT0]
  iintro ⟨HW, HD2⟩
  iapply (do_wait m K 0 c 4 (Or.inl rfl) rfl rfl rfl credit_x) $$ [$HK $HW]
  iintro HW
  iapply (do_wait m K 0 c 5 (Or.inl rfl) rfl rfl rfl credit_x) $$ [$HK $HW]
  iintro HW
  iapply (do_wait m K 0 c 6 (p' := 7) (Or.inl rfl) rfl rfl rfl credit_x) $$ [$HK $HW]
  iintro HW
  ihave ⟨HO, HD0⟩ := (waits_over m 0 c 7) $$ HW
  ihave ⟨Hr, Hz3⟩ := (rxWhole m c) $$ [$Hr $HD3]
  iapply (load_r c (rxAll m)) $$ Hr
  iintro Hr
  iapply (wp_done c _ Q)
  iapply Hk
  iframe HO Hx Hw Ho Hz HL Hr Hz3 HD0 HD1 HD2

/-- The kernel. -/
theorem body_wp (c : Dev nD) {Q : PUnit → sProp 𝕄} :
    iprop(know m K ∗ bodyIn m c)
      ⊢ iprop((bodyOut m c -∗ Q ⟨⟩) -∗ WP c (cc0_body (F := F) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6) Q) := by
  rw [cc0_body_eq_skeleton]
  unfold cc0_body_skel
  simp only [Prog.lift, Prog.bind_op, Prog.bind_ret, Prog.pure_eq_ret]
  unfold bodyOut
  iintro ⟨#HK, HB⟩ Hk
  iapply (wp_seq c)
  iapply (part17_wp m K c) $$ [$HK $HB]
  iintro ⟨HO, Hx, Hw, Ho, Hz, HL, Hr, Hz3, HD0, HD1, HD2⟩
  iapply (load_o c (reluOf m c)) $$ Ho
  iintro Ho
  iapply (load_o c (reluOf m c)) $$ Ho
  iintro Ho
  iapply (store_acc c (reluOf m c) _ (outOf m c) (rfl)) $$ Ho
  iintro Ho
  iapply (wp_done c _ Q)
  iapply Hk
  iframe HO Hx Hw Ho Hz HL Hr Hz3 HD0 HD1 HD2

end Cert.AllToAll
-- ==== Proof.Enter.lean ====
/- Into the kernel and out of it: the buffers cut into the pieces the kernel moves, and whole again; the kernel as the
   launch calls it. -/
module

public import proofs.«01_k».proof.Proof.Body

@[expose] public section

set_option maxRecDepth 65536

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers cut -/

/-- The staged columns of `x`: the device's own block, and one for each other device. -/
theorem x_blocks (c : Dev nD) (f : S4096x512.Idx → Elt F .f32) :
    (((c : Thread nD τ).loc cc0_stg0_0) ↦{fullShare} f : sProp 𝕄) = iprop(xPts c c f ∗ bigSep Finset.univ fun k : Fin 7 => xPts c (rot k c) f) := by
  have h : (((c : Thread nD τ).loc cc0_stg0_0) ↦{fullShare} f : sProp 𝕄) = bigSep Finset.univ fun d : Dev nD => xPts (F := F) c d f :=
    Ring.pointsTo_blocks (ℓ := (c : Thread nD τ).loc cc0_stg0_0) xI x_disj x_cover f
  rw [h, by_seen c]

/-- The two landing buffers, likewise: slot `c`, and the slots the other devices fill. -/
theorem xg_cut (c : Dev nD) :
    (iprop(∃ f : S8x512x512.Idx → Elt F .f32, ((c : Thread nD τ).loc cc0_scratch0) ↦{fullShare} f) : sProp 𝕄)
      ⊢ iprop((∃ f, xgPts (F := F) c c f) ∗ bigSep Finset.univ fun k : Fin 7 => iprop(∃ f, xgPts (F := F) c (rot k c) f)) := by
  have h : ∀ f : S8x512x512.Idx → Elt F .f32, (((c : Thread nD τ).loc cc0_scratch0) ↦{fullShare} f : sProp 𝕄) = bigSep Finset.univ fun d : Dev nD => xgPts (F := F) c d f :=
    fun f => Ring.pointsTo_blocks (ℓ := (c : Thread nD τ).loc cc0_scratch0) xgI xg_disj xg_cover f
  have e : ∀ (f : S8x512x512.Idx → Elt F .f32) (d : Dev nD), xgPts (F := F) c d f ⊢ iprop(∃ f, xgPts (F := F) c d f) := fun f d => by
    iintro H
    iexists f
    iexact H
  have e' : ∀ f, (bigSep Finset.univ fun d : Dev nD => xgPts (F := F) c d f) ⊢ bigSep Finset.univ fun d : Dev nD => iprop(∃ f, xgPts (F := F) c d f) :=
    fun f => bigSep_mono fun d _ => e f d
  rw [← by_seen c (fun d => iprop(∃ f, xgPts (F := F) c d f))]
  iintro ⟨%f, H⟩
  ihave H := (Entails.of_eq (h f)) $$ H
  iapply (e' f) $$ H
theorem rx_cut (c : Dev nD) :
    (iprop(∃ f : S8x8x128.Idx → Elt F .f32, ((c : Thread nD τ).loc cc0_scratch2) ↦{fullShare} f) : sProp 𝕄)
      ⊢ iprop((∃ f, rxPts (F := F) c c f) ∗ bigSep Finset.univ fun k : Fin 7 => iprop(∃ f, rxPts (F := F) c (rot k c) f)) := by
  have h : ∀ f : S8x8x128.Idx → Elt F .f32, (((c : Thread nD τ).loc cc0_scratch2) ↦{fullShare} f : sProp 𝕄) = bigSep Finset.univ fun d : Dev nD => rxPts (F := F) c d f :=
    fun f => Ring.pointsTo_blocks (ℓ := (c : Thread nD τ).loc cc0_scratch2) rxI rx_disj rx_cover f
  have e : ∀ (f : S8x8x128.Idx → Elt F .f32) (d : Dev nD), rxPts (F := F) c d f ⊢ iprop(∃ f, rxPts (F := F) c d f) := fun f d => by
    iintro H
    iexists f
    iexact H
  have e' : ∀ f, (bigSep Finset.univ fun d : Dev nD => rxPts (F := F) c d f) ⊢ bigSep Finset.univ fun d : Dev nD => iprop(∃ f, rxPts (F := F) c d f) :=
    fun f => bigSep_mono fun d _ => e f d
  rw [← by_seen c (fun d => iprop(∃ f, rxPts (F := F) c d f))]
  iintro ⟨%f, H⟩
  ihave H := (Entails.of_eq (h f)) $$ H
  iapply (e' f) $$ H

/-- The landing buffer for `x` whole again, whatever it holds. -/
theorem xg_join (c : Dev nD) :
    iprop((∃ f, xgPts (F := F) c c f) ∗ bigSep Finset.univ fun k : Fin 7 => xgPts c (rotB k c) (xgAll m c))
      ⊢ (iprop(∃ f : S8x512x512.Idx → Elt F .f32, ((c : Thread nD τ).loc cc0_scratch0) ↦{fullShare} f) : sProp 𝕄) := by
  have h : (bigSep Finset.univ fun d : Dev nD => iprop(∃ f, xgPts (F := F) c d f))
      ⊢ (iprop(∃ f : S8x512x512.Idx → Elt F .f32, ((c : Thread nD τ).loc cc0_scratch0) ↦{fullShare} f) : sProp 𝕄) :=
    Ring.pointsTo_blocks_join_exists (ℓ := (c : Thread nD τ).loc cc0_scratch0) xgI xg_disj xg_cover (xgAll m c)
  have e : ∀ k : Fin 7, xgPts c (rotB k c) (xgAll m c) ⊢ iprop(∃ f, xgPts (F := F) c (rotB k c) f) := fun k => by
    iintro H
    iexists (xgAll m c)
    iexact H
  have e' : (bigSep Finset.univ fun k : Fin 7 => xgPts c (rotB k c) (xgAll m c)) ⊢ bigSep Finset.univ fun k : Fin 7 => iprop(∃ f, xgPts (F := F) c (rotB k c) f) :=
    bigSep_mono fun k _ => e k
  rw [by_seenB c (fun d => iprop(∃ f, xgPts (F := F) c d f))] at h
  iintro ⟨H, HS⟩
  iapply h
  isplitl [H]; · iexact H
  iapply e' $$ HS

/-! ## Before and after -/

/-- What the launch gives a device beside its buffers: its credits and places, and the payments it makes. -/
def tokens (c : Dev nD) : sProp 𝕄 :=
  iprop(cred (tallyAt (barC c) () 7) ∗ atPos ER (barC c) 0 ∅ 0 ∗ (bigSep Finset.univ fun k : Fin 7 => dutyTok ER (barC (rot k c)) 0 k)
    ∗ (bigSep Finset.univ fun k : Fin 7 => iprop(dutyTok ER (dmaC 0 k c) 0 0 ∗ dutyTok ER (dmaC 1 k (rot k c)) 0 0))
    ∗ (bigSep Finset.univ (aPre (F := F) c)) ∗ (bigSep Finset.univ (wTok (F := F) 1 c)) ∗ (bigSep Finset.univ (wTok (F := F) 3 c))
    ∗ (bigSep Finset.univ (pos (F := F) 0 c)) ∗ bigSep Finset.univ (pos (F := F) 2 c))

/-- The scratch buffers, each whole at some contents. -/
def scratch (c : Dev nD) : sProp 𝕄 :=
  iprop((∃ f : S8x512x512.Idx → Elt F .f32, ((c : Thread nD τ).loc cc0_scratch0) ↦{fullShare} f) ∗ (∃ f, tPts (F := F) c f) ∗ ∃ f, rPts (F := F) c f)
/-- Every counter of the kernel's at zero. -/
def zeros (c : Dev nD) : sProp 𝕄 :=
  iprop(semVal (barC c) 0 ∗ closed (F := F) 0 c ∗ closed (F := F) 1 c ∗ closed (F := F) 2 c ∗ closed (F := F) 3 c)

/-- Into the kernel. -/
theorem enter (c : Dev nD) :
    iprop(tokens (F := F) c ∗ Owing (F := F) c 0 0 0 ∗ (((c : Thread nD τ).loc cc0_stg0_0) ↦{fullShare} xOf m c) ∗ wPts m c ∗ (∃ f, oPts (F := F) c f) ∗ scratch (F := F) c)
      ⊢ iprop(bodyIn m c ∗ ∃ f, xgPts (F := F) c c f) := by
  have hs : iprop((bigSep Finset.univ fun k : Fin 7 => dutyTok ER (barC (rot k c)) 0 k) ∗ (bigSep Finset.univ fun k : Fin 7 => iprop(∃ f, xgPts (F := F) c (rot k c) f))
      ∗ bigSep Finset.univ fun k : Fin 7 => iprop(∃ f, rxPts (F := F) c (rot k c) f)) ⊢ (bigSep Finset.univ (sigTok (F := F) c) : sProp 𝕄) := by
    rw [← bigSep_sep', ← bigSep_sep']
    exact Entails.of_eq rfl
  have hx : iprop((bigSep Finset.univ fun k : Fin 7 => iprop(dutyTok ER (dmaC 0 k c) 0 0 ∗ dutyTok ER (dmaC 1 k (rot k c)) 0 0))
      ∗ bigSep Finset.univ fun k : Fin 7 => xPts c (rot k c) (xOf m c)) ⊢ (bigSep Finset.univ (xPre m c) : sProp 𝕄) := by
    have e : ∀ k : Fin 7, iprop((dutyTok ER (dmaC 0 k c) 0 0 ∗ dutyTok ER (dmaC 1 k (rot k c)) 0 0) ∗ xPts c (rot k c) (xOf m c)) ⊢ xPre m c k := fun k => by
      unfold xPre
      iintro ⟨⟨A, B⟩, C⟩
      iframe A B C
    rw [← bigSep_sep']
    exact bigSep_mono fun k _ => e k
  rw [x_blocks]
  unfold tokens scratch bodyIn sigs
  rw [todo_zero]
  iintro ⟨⟨Hc, Hat, Hsig, HX, HA, HT1, HT3, HP0, HP2⟩, HO, ⟨Hx, Hxs⟩, Hw, Ho, Hxg, Ht, Hr⟩
  ihave ⟨Hxg, Hxgs⟩ := (xg_cut (F := F) c) $$ Hxg
  unfold rPts
  ihave ⟨Hr, Hrs⟩ := (rx_cut (F := F) c) $$ Hr
  ihave HS := hs $$ [$Hsig $Hxgs $Hrs]
  ihave HX := hx $$ [$HX $Hxs]
  iframe HO HS Hc Hat HX Hx Hw Ho HT1 Ht Hr HA HT3 HP0 HP2 Hxg

/-- Out of it. -/
theorem leave (c : Dev nD) :
    iprop(bodyOut m c ∗ ∃ f, xgPts (F := F) c c f)
      ⊢ iprop(Owing (F := F) c 7 7 7 ∗ (((c : Thread nD τ).loc cc0_stg0_0) ↦{fullShare} xOf m c) ∗ wPts m c ∗ oPts c (outOf m c) ∗ scratch (F := F) c ∗ zeros (F := F) c) := by
  have e0 : (bigSep Finset.univ (wDone m 0 c) : sProp 𝕄) = iprop((bigSep Finset.univ fun k : Fin 7 => xPts c (rot k c) (xOf m c)) ∗ closed (F := F) 0 c) := by
    unfold closed
    rw [← bigSep_sep']
    rfl
  have e1 : (bigSep Finset.univ (wDone m 1 c) : sProp 𝕄) = iprop((bigSep Finset.univ fun k : Fin 7 => xgPts c (rotB k c) (xgAll m c)) ∗ closed (F := F) 1 c) := by
    unfold closed
    rw [← bigSep_sep']
    rfl
  have e2 : (bigSep Finset.univ (wDone m 2 c) : sProp 𝕄) = iprop((bigSep Finset.univ fun k : Fin 7 => txPts c (Fin.castSucc k) (amaxOf m c)) ∗ closed (F := F) 2 c) := by
    unfold closed
    rw [← bigSep_sep']
    rfl
  rw [x_blocks]
  unfold bodyOut scratch zeros
  rw [e0, e1, e2]
  iintro ⟨⟨HO, Hx, Hw, Ho, Hz, HL, Hr, Hz3, ⟨Hxs, Hz0⟩, ⟨Hgs, Hz1⟩, ⟨Hts, Hz2⟩⟩, Hg⟩
  ihave Hxg := (xg_join m c) $$ [$Hg $Hgs]
  ihave Ht := (Entails.of_eq (tile_shares c (amaxOf m c)).symm) $$ [$HL $Hts]
  iframe HO Hx Hxs Hw Ho Hxg Hz Hz0 Hz1 Hz2 Hz3
  isplitl [Ht]
  · iexists (amaxOf m c); iexact Ht
  iexists (rxAll m); iexact Hr

end Cert.AllToAll
-- ==== Proof.Region.lean ====
/- The kernel as the launch calls it: what its windows hold before and after, and the obligation on its body. -/
module

public import proofs.«01_k».proof.Proof.Enter
public import proofs.«01_k».proof.Proof.Gen.KernelIdeal.Points

@[expose] public section

set_option maxRecDepth 65536

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Each window is its whole array -/

theorem blk0 (t : Fin cfg0.N) (f : S4096x512.Idx → Elt F .f32) : ((cfg0.win 0).blk t).view.read (Elt F) f = f := by
  rw [fin_N0 t]
  funext i
  rw [View.read_apply]
  have e : ((cfg0.win 0).blk t0_0).view.emb i = i := by
    funext a
    fin_cases a <;> exact Fin.ext (by show 0 * _ + 1 * _ = _; rw [Nat.zero_mul, Nat.zero_add, Nat.one_mul])
  exact congrArg f e
theorem blk1 (t : Fin cfg0.N) (f : S4096x2048.Idx → Elt F .f32) : ((cfg0.win 1).blk t).view.read (Elt F) f = f := by
  rw [fin_N0 t]
  funext i
  rw [View.read_apply]
  have e : ((cfg0.win 1).blk t0_0).view.emb i = i := by
    funext a
    fin_cases a <;> exact Fin.ext (by show 0 * _ + 1 * _ = _; rw [Nat.zero_mul, Nat.zero_add, Nat.one_mul])
  exact congrArg f e
theorem blk2_emb (i : S512x2048.Idx) : ((cfg0.win 2).blk t0_0).view.emb i = i := by
  funext a
  fin_cases a <;> exact Fin.ext (by show 0 * _ + 1 * _ = _; rw [Nat.zero_mul, Nat.zero_add, Nat.one_mul])
theorem blk2 (t : Fin cfg0.N) (f : S512x2048.Idx → Elt F .f32) : ((cfg0.win 2).blk t).view.read (Elt F) f = f := by
  rw [fin_N0 t]
  funext i
  rw [View.read_apply]
  exact congrArg f (blk2_emb i)

/-! ## The proof data -/

def Φ₀ (c : Dev nD) : sProp 𝕄 := iprop((∃ K, know (F := F) m K ∗ tokens (F := F) c) ∗ scratch (F := F) c)
def Φ₁ (c : Dev nD) : sProp 𝕄 := iprop(scratch (F := F) c ∗ zeros (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xOf m c
    | ⟨1, _⟩ => wOf m c
    | ⟨2, _⟩ => outOf m c
  Φ t := match t with
    | ⟨0, _⟩ => Φ₀ m c
    | ⟨_ + 1, _⟩ => Φ₁ (F := F) c
  q _ := fullShare
  owed t := match t with
    | ⟨0, _⟩ => owe c 0 0 0
    | ⟨_ + 1, _⟩ => 0

theorem owe_done (c : Dev nD) : owe c 7 7 7 = 0 := by
  unfold owe
  rw [oweD_end, oweD_end, oweB_end, add_zero, add_zero]

/-- The region finds each input's staging buffer holding the whole input. -/
theorem before0 (c : Dev nD) (d) : (dats m ρ 0 c).before (0 : Fin 3) t0_0 d = xOf m c := by
  unfold Dat.before
  rw [if_pos (fetch0_0 t0_0)]
  exact blk0 t0_0 (xOf m c)
theorem before1 (c : Dev nD) (d) : (dats m ρ 0 c).before (1 : Fin 3) t0_0 d = wOf m c := by
  unfold Dat.before
  rw [if_pos (fetch0_1 t0_0)]
  exact blk1 t0_0 (wOf m c)

/-- The run leaves the result array as the kernel computes it. -/
theorem result (c : Dev nD) : (dats m ρ 0 c).arrAt (2 : Fin 3) cfg0.N = outOf m c := by
  refine (dats m ρ 0 c).arrAt_eq_of_cover (2 : Fin 3) (outOf m c) (fun t _ => ?_) (fun i => ⟨t0_0, flush0_2 t0_0, ?_⟩)
  · exact (blk2 t (outOf m c)).symm ▸ rfl
  · have h := ((cfg0.win 2).blk t0_0).view.emb_mem_set i
    rw [blk2_emb i] at h
    exact h

/-! ## The body -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def pre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def post (c : Dev nD) : sProp 𝕄 :=
  iprop(Φ₁ (F := F) c ∗ (dats m ρ 0 c).owesAt () t0_0.succ ∗ stg c cc0_stg0_0 (xOf m c) ∗ stg c cc0_stg1_0 (wOf m c) ∗ stg c cc0_stg2_0 (outOf m c))

/-- From what the launch hands the body to what the body starts from, and back. -/
theorem pre_enter (c : Dev nD) :
    pre m ρ c ⊢ iprop(∃ K, know m K ∗ bodyIn m c ∗ ∃ f, xgPts (F := F) c c f) := by
  unfold pre Φ₀ Dat.owesAt Pipeline.owesWithin
  rw [show (dats m ρ 0 c).owed t0_0.castSucc = owe c 0 0 0 from rfl]
  iintro ⟨⟨⟨%K, #HK, HT⟩, HS⟩, ⟨%W, %hW, HO⟩, ⟨%d0, %g0, %hg0, Hx⟩, ⟨%d1, %g1, %hg1, Hw⟩, ⟨%d2, %g2, %hg2, Ho⟩⟩
  obtain rfl : g0 = xOf m c := hg0.trans (before0 m ρ c d0)
  obtain rfl : g1 = wOf m c := hg1.trans (before1 m ρ c d1)
  iexists K
  isplitr; · iexact HK
  iapply (enter m c)
  iframe HT HS Hx
  isplitl [HO]; · unfold Owing; iexists W; iexact HO
  isplitl [Hw]; · unfold wPts; iexact Hw
  iexists g2
  unfold oPts
  iexact Ho
theorem leave_post (c : Dev nD) : iprop(bodyOut m c ∗ ∃ f, xgPts (F := F) c c f) ⊢ post m ρ c := by
  refine (leave m c).trans ?_
  unfold post Φ₁ Dat.owesAt Pipeline.owesWithin Owing wPts oPts
  rw [show (dats m ρ 0 c).owed t0_0.succ = 0 from rfl, owe_done]
  iintro ⟨⟨%W, HO⟩, Hx, Hw, Ho, HS, HZ⟩
  iframe HS HZ
  isplitl [HO]
  · iexists W
    isplitr; · ipureintro; exact fun _ _ => Or.inl trivial
    iexact HO
  isplitl [Hx]
  · iexists _
    isplitr; · (ipureintro; rfl)
    iexact Hx
  isplitl [Hw]
  · iexists _
    isplitr; · (ipureintro; rfl)
    iexact Hw
  iexists _
  isplitr; · (ipureintro; rfl)
  iexact Ho

/-- The body meets its obligation. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show pre m ρ c ⊢ WP c (cc0_body (F := F) (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6) (fun _ => post m ρ c)
  iintro H
  ihave ⟨%K, #HK, HB, Hg⟩ := (pre_enter m ρ c) $$ H
  iapply (body_wp m K c) $$ [$HK $HB]
  iintro HB
  iapply (leave_post m ρ c)
  iframe HB Hg

end Cert.AllToAll
-- ==== Proof.Launch.lean ====
/- The launch: every device's cells allocated, their payments dealt round the ring, and the run from any memory. -/
module

public import proofs.«01_k».proof.Proof.Region

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their payments -/

/-- The kernel's own semaphores. -/
abbrev osem (p : Fin 4 × Fin 7) : SemLoc sig := .dma (qsem p.1 p.2)
theorem ownSemFacts : Pipeline.OwnSemFacts cfg0.spec osem := by decide
theorem share_eq (c : Dev nD) (w : Fin cfg0.W) : (dats m ρ 0 c).share w = fullShare := by unfold Dat.share; split <;> rfl

def allCells : Finset (GSem nD τ sig) := Finset.univ.map ⟨kcell, kcell_injective⟩
/-- Each cell's payments: seven at a barrier, one at a transfer's. -/
abbrev tokOf (p : Dev nD × (Option (Fin 4) × Fin 7)) : GSem nD τ sig × ℕ × Fin 7 :=
  match p.2.1 with
  | none => (barC p.1, 0, p.2.2)
  | some a => (dmaC a p.2.2 p.1, 0, 0)
theorem tokOf_injective : Function.Injective tokOf := by
  rintro ⟨c, o, k⟩ ⟨c', o', k'⟩ h
  rcases o with _ | a <;> rcases o' with _ | a'
  · have h1 := kcell_injective (congrArg (fun x : GSem nD τ sig × ℕ × Fin 7 => x.1) h)
    have h2 : k = k' := congrArg (fun x : GSem nD τ sig × ℕ × Fin 7 => x.2.2) h
    have h3 : c = c' := congrArg Prod.fst h1
    rw [h2, h3]
  · have h1 := congrArg Prod.snd (kcell_injective (congrArg (fun x : GSem nD τ sig × ℕ × Fin 7 => x.1) h))
    exact absurd h1 (by simp)
  · have h1 := congrArg Prod.snd (kcell_injective (congrArg (fun x : GSem nD τ sig × ℕ × Fin 7 => x.1) h))
    exact absurd h1 (by simp)
  · have h1 := kcell_injective (congrArg (fun x : GSem nD τ sig × ℕ × Fin 7 => x.1) h)
    have h2 := congrArg Prod.snd h1
    have h3 : c = c' := congrArg Prod.fst h1
    have h4 : (a, k) = (a', k') := Option.some.inj h2
    rw [h3, show a = a' from congrArg Prod.fst h4, show k = k' from congrArg Prod.snd h4]
def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- A family over a device's cells: the barrier's, and the four arrays'. -/
theorem by_cell (Φ : CI → sProp 𝕄) :
    (bigSep Finset.univ Φ : sProp 𝕄) = iprop(Φ none ∗ (bigSep Finset.univ fun k : Fin 7 => Φ (some (0, k))) ∗ (bigSep Finset.univ fun k : Fin 7 => Φ (some (1, k)))
      ∗ (bigSep Finset.univ fun k : Fin 7 => Φ (some (2, k))) ∗ bigSep Finset.univ fun k : Fin 7 => Φ (some (3, k))) := by
  rw [bigSep_option, bigSep_univ_prod, bigSep_fin4]

/-- The payments of a device's own cells; -/
def toks (c : Dev nD) : sProp 𝕄 :=
  iprop((bigSep Finset.univ fun k : Fin 7 => dutyTok ER (barC c) 0 k)
    ∗ (bigSep Finset.univ fun k : Fin 7 => dutyTok ER (dmaC 0 k c) 0 0) ∗ (bigSep Finset.univ fun k : Fin 7 => dutyTok ER (dmaC 1 k c) 0 0)
    ∗ (bigSep Finset.univ fun k : Fin 7 => dutyTok ER (dmaC 2 k c) 0 0) ∗ (bigSep Finset.univ fun k : Fin 7 => dutyTok ER (dmaC 3 k c) 0 0))
/-- the payments it makes. -/
def pays (c : Dev nD) : sProp 𝕄 :=
  iprop((bigSep Finset.univ fun k : Fin 7 => dutyTok ER (barC (rot k c)) 0 k)
    ∗ (bigSep Finset.univ fun k : Fin 7 => dutyTok ER (dmaC 0 k c) 0 0) ∗ (bigSep Finset.univ fun k : Fin 7 => dutyTok ER (dmaC 1 k (rot k c)) 0 0)
    ∗ (bigSep Finset.univ fun k : Fin 7 => dutyTok ER (dmaC 2 k c) 0 0) ∗ (bigSep Finset.univ fun k : Fin 7 => dutyTok ER (dmaC 3 k (rot k c)) 0 0))

/-- What the launch deals a device at first: its cells' states, its places at them, its own cells' payments. -/
def G (c : Dev nD) : sProp 𝕄 :=
  iprop((bigSep Finset.univ fun i : CI => roundState ER (rd m) (kcell (c, i)) 0)
    ∗ (bigSep Finset.univ fun i : CI => iprop(atPos ER (kcell (c, i)) 0 ∅ 0 ∗ reached ER (kcell (c, i)) 0)) ∗ toks (F := F) c)
/-- And in the end: what every device knows, its places and the payments it makes. -/
def linear (c : Dev nD) : sProp 𝕄 := iprop((bigSep Finset.univ fun i : CI => atPos ER (kcell (c, i)) 0 ∅ 0) ∗ pays (F := F) c)
def G' (c : Dev nD) : sProp 𝕄 := iprop(∃ K, records (F := F) m K ∗ linear (F := F) c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    refine bigSep_congr fun c _ => ?_
    unfold toks
    rw [bigSep_univ_prod, bigSep_option, bigSep_fin4]
    rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(closed (F := F) 0 c ∗ closed (F := F) 1 c ∗ closed (F := F) 2 c ∗ closed (F := F) 3 c) := by
  unfold Pipeline.ownSems0
  rw [bigSep_univ_prod, bigSep_fin4]
  rfl
theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems0_eq, unscopedSems0_eq, by_cell]
  unfold closed
  iintro ⟨⟨H0, H1, H2, H3⟩, HB⟩
  iframe H0 H1 H2 H3 HB

/-- A device's cells set up. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (rd m) κ (kcell (c, i))))
          ∗ (bigSep Finset.univ fun i : CI => iprop(atPos ER (kcell (c, i)) 0 ∅ 0 ∗ reached ER (kcell (c, i)) 0)) ∗ toks (F := F) c) := by
  have ha : iprop((bigSep Finset.univ fun i : CI => semVal (kcell (c, i)) 0) ∗ bigSep Finset.univ fun i : CI => roundState ER (rd m) (kcell (c, i)) 0)
      ⊢ (|={Set.univ}=> bigSep Finset.univ fun i : CI => iprop(∃ κ : ℕ, cellInv ER (rd m) κ (kcell (c, i))) : sProp 𝕄) := by
    rw [← bigSep_sep']
    exact (bigSep_mono fun i _ => (Rounds.body_intro ER (rd m) (kcell (c, i))).trans inv_alloc).trans (bigSep_fupd _ _)
  unfold G
  iintro ⟨Hos, Hus, Hst, Hat, Htok⟩
  ihave Hv := (sems0_eq (F := F) c) $$ [$Hos $Hus]
  imod ha $$ [$Hv $Hst] with Hinv
  imodintro
  iframe Hinv Hat Htok

/-- The payments dealt round the ring: to each device those it makes. -/
theorem dealt : (bigSep Finset.univ fun c : Dev nD => (toks (F := F) c : sProp 𝕄)) ⊢ bigSep Finset.univ fun c : Dev nD => pays (F := F) c := by
  have h : ∀ Φ : Dev nD → Fin 7 → sProp 𝕄, (bigSep Finset.univ fun c : Dev nD => bigSep Finset.univ fun k : Fin 7 => Φ c k)
      = bigSep Finset.univ fun c : Dev nD => bigSep Finset.univ fun k : Fin 7 => Φ (rot k c) k := fun Φ => by
    rw [bigSep_univ_comm, bigSep_univ_comm (fun c k => Φ (rot k c) k)]
    exact bigSep_congr fun k _ => bigSep_univ_equiv (turn k) (fun c => Φ c k)
  unfold toks pays
  rw [bigSep_sep', bigSep_sep', bigSep_sep', bigSep_sep', bigSep_sep', bigSep_sep', bigSep_sep', bigSep_sep',
    h (fun c k => dutyTok ER (barC c) 0 k), h (fun c k => dutyTok ER (dmaC 1 k c) 0 0), h (fun c k => dutyTok ER (dmaC 3 k c) 0 0)]

theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem known (K : Dev nD × CI → ℕ) (c : Dev nD) : iprop(records m K ∗ linear (F := F) c) ⊢ G' m c := by
  unfold G'
  iintro H
  iexists K
  iexact H

theorem regroup :
    (bigSep Finset.univ fun c : Dev nD => iprop((bigSep Finset.univ fun i : CI => iprop(∃ κ : ℕ, cellInv ER (rd m) κ (kcell (c, i))))
          ∗ (bigSep Finset.univ fun i : CI => iprop(atPos ER (kcell (c, i)) 0 ∅ 0 ∗ reached ER (kcell (c, i)) 0)) ∗ toks (F := F) c) : sProp 𝕄)
      ⊢ bigSep Finset.univ (G' m) := by
  rw [bigSep_sep', bigSep_sep', ← bigSep_univ_prod (fun p : Dev nD × CI => iprop(∃ κ : ℕ, cellInv ER (rd m) κ (kcell p))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun p : Dev nD × CI => (reached ER (kcell p) 0 : sProp 𝕄))]
  iintro ⟨HI, ⟨Hat, #HR⟩, Htok⟩
  ihave HK := (BI.bigSep_exists_pi Finset.univ (fun (p : Dev nD × CI) (κ : ℕ) => (cellInv ER (rd m) κ (kcell p) : sProp 𝕄))) $$ HI
  icases HK with ⟨%K, #HI⟩
  ihave Htk := (dealt (F := F)) $$ Htok
  iapply (with_known (R := records m K) fun c _ => known m K c)
  isplitr
  · unfold records; isplitl; · iexact HI
    iexact HR
  · unfold linear
    iapply (Entails.of_eq (bigSep_sep' Finset.univ (fun c : Dev nD => bigSep Finset.univ fun i : CI => (atPos ER (kcell (c, i)) 0 ∅ 0 : sProp 𝕄)) pays).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.AllToAll
-- ==== Proof.Run.lean ====
/- The run: the launch's credit, its side conditions, and what every execution of the program ends with. -/
module

public import proofs.«01_k».proof.Proof.Launch
public import Idealize.ShloMosaic.Lib.Pipeline.CollectiveSegs

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's credit -/

/-- What device `c` owes at the start. -/
abbrev O₀ (c : Dev nD) : CellTallies nD τ sig Unit := owe c 0 0 0

theorem tally_cell (p q : Dev nD × CI) (n : ℕ) :
    (tallyAt (kcell p) () n : CellTallies nD τ sig Unit) (kcell q) () = if p = q then n else 0 := by
  rw [tallyAt_apply]
  by_cases h : p = q
  · subst h; rw [if_pos ⟨rfl, rfl⟩, if_pos rfl]
  · rw [if_neg h, if_neg]
    rintro ⟨h1, -⟩
    first
      | exact h (kcell_injective h1)
      | exact h (kcell_injective h1).symm

/-- Of the units all devices owe over all turns, those owed one cell: one turn's device owes it each. -/
theorem owed_sum (i' : Fin 7 → CI) (c : Dev nD) (i : CI) (n : ℕ) :
    ∑ d : Dev nD, ∑ j : Fin 7, (tallyAt (kcell (rot j d, i' j)) () n : CellTallies nD τ sig Unit) (kcell (c, i)) () = ∑ j : Fin 7, if i' j = i then n else 0 := by
  rw [Finset.sum_comm]
  refine Finset.sum_congr rfl fun j _ => ?_
  rw [Finset.sum_eq_single (rotB j c)]
  · rw [tally_cell, rot_rotB]
    by_cases h : i' j = i
    · rw [if_pos h, h, if_pos rfl]
    · rw [if_neg h, if_neg fun h' => h (congrArg Prod.snd h')]
  · intro d _ hd
    rw [tally_cell, if_neg fun h' => hd ?_]
    rw [← show rot j d = c from congrArg Prod.fst h', rotB_rot]
  · exact fun h => absurd (Finset.mem_univ _) h

theorem owe_start (d : Dev nD) (g : GSem nD τ sig) :
    O₀ d g () = (∑ j : Fin 7, (tallyAt (kcell (rot j d, some (3, j))) () (amt 3) : CellTallies nD τ sig Unit) g ())
      + (∑ j : Fin 7, (tallyAt (kcell (rot j d, some (1, j))) () (amt 1) : CellTallies nD τ sig Unit) g ())
      + ∑ j : Fin 7, (tallyAt (kcell (rot j d, none)) () 1 : CellTallies nD τ sig Unit) g () := by
  unfold O₀ owe oweD oweB
  rw [Finset.filter_true_of_mem fun _ _ => Nat.zero_le _]
  simp only [Pi.add_apply, Finsupp.add_apply, Finset.sum_apply, Finsupp.finsetSum_apply]

theorem owed_cell (c : Dev nD) (i : CI) :
    ∑ d : Dev nD, O₀ d (kcell (c, i)) () = (∑ j : Fin 7, if (some (3, j) : CI) = i then amt 3 else 0)
      + (∑ j : Fin 7, if (some (1, j) : CI) = i then amt 1 else 0) + ∑ j : Fin 7, if (none : CI) = i then 1 else 0 := by
  rw [Finset.sum_congr rfl fun d _ => owe_start d _, Finset.sum_add_distrib, Finset.sum_add_distrib, owed_sum, owed_sum, owed_sum]

theorem credit_of (c : Dev nD) (i : CI) (n : ℕ) (h : ∑ d : Dev nD, O₀ d (kcell (c, i)) () = n) :
    tallyOn (kcell (c, i)) (launchCredit (Pipeline.owing O₀) 0 (kcell (c, i))) = (tallyAt (kcell (c, i)) () n : CellTallies nD τ sig Unit) := by
  unfold tallyAt; refine congrArg _ (Finsupp.ext fun u => ?_); cases u
  rw [Pipeline.launchCredit_owing, Finsupp.single_eq_same]
  exact h
theorem credit_barrier (c : Dev nD) : ∑ d : Dev nD, O₀ d (kcell (c, none)) () = 7 := by rw [owed_cell]; simp
theorem credit_block (c : Dev nD) (k : Fin 7) : ∑ d : Dev nD, O₀ d (kcell (c, some (1, k))) () = amt 1 := by rw [owed_cell]; simp
theorem credit_tile (c : Dev nD) (k : Fin 7) : ∑ d : Dev nD, O₀ d (kcell (c, some (3, k))) () = amt 3 := by rw [owed_cell]; simp

/-- Each device's credit: seven signals, seven blocks, seven tiles. -/
theorem creds (c : Dev nD) : (Pipeline.launchCred O₀ c : sProp 𝕄)
    ⊢ iprop(cred (tallyAt (barC c) () 7) ∗ (bigSep Finset.univ fun k : Fin 7 => dCred (F := F) 1 c k) ∗ bigSep Finset.univ fun k : Fin 7 => dCred (F := F) 3 c k) := by
  unfold Pipeline.launchCred
  refine (bigSep_subset (Finset.subset_univ (Finset.univ.map ⟨csem, csem_injective⟩))).trans ?_
  rw [bigSep_map]
  refine (Entails.of_eq (by_cell (F := F) _)).trans ?_
  have e0 : (fun i : CI => (cred (tallyOn (kcell (c, i)) (launchCredit (Pipeline.owing O₀) 0 (kcell (c, i)))) : sProp 𝕄)) none = cred (tallyAt (barC c) () 7) :=
    congrArg _ (credit_of c none 7 (credit_barrier c))
  have e1 (k : Fin 7) : (cred (tallyOn (kcell (c, some (1, k))) (launchCredit (Pipeline.owing O₀) 0 (kcell (c, some (1, k))))) : sProp 𝕄) = dCred 1 c k :=
    congrArg _ (credit_of c _ _ (credit_block c k))
  have e3 (k : Fin 7) : (cred (tallyOn (kcell (c, some (3, k))) (launchCredit (Pipeline.owing O₀) 0 (kcell (c, some (3, k))))) : sProp 𝕄) = dCred 3 c k :=
    congrArg _ (credit_of c _ _ (credit_tile c k))
  have E1 := bigSep_congr (s := Finset.univ) fun k _ => e1 k
  have E3 := bigSep_congr (s := Finset.univ) fun k _ => e3 k
  iintro ⟨H0, -, H1, -, H3⟩
  isplitl [H0]; · iapply (Entails.of_eq e0); iexact H0
  isplitl [H1]; · iapply (Entails.of_eq E1); iexact H1
  iapply (Entails.of_eq E3); iexact H3

/-! ## The launch's side conditions -/

def start (c : Dev nD) : sProp 𝕄 := iprop(∃ K, know (F := F) m K ∗ tokens (F := F) c)

/-- A device's places, payments and credits are what it starts from. -/
theorem tokens_intro (c : Dev nD) :
    iprop(linear (F := F) c ∗ cred (tallyAt (barC c) () 7) ∗ (bigSep Finset.univ fun k : Fin 7 => dCred (F := F) 1 c k) ∗ bigSep Finset.univ fun k : Fin 7 => dCred (F := F) 3 c k)
      ⊢ tokens (F := F) c := by
  unfold linear pays tokens aPre wTok pos
  rw [by_cell (F := F), bigSep_sep', bigSep_sep', bigSep_sep', bigSep_sep']
  iintro ⟨⟨⟨P, P0, P1, P2, P3⟩, T, T0, T1, T2, T3⟩, C, C1, C3⟩
  iframe C T T0 T1 T2 T3 C1 C3
  isplitl [P]; · iexact P
  isplitl [P1]; · iexact P1
  isplitl [P3]; · iexact P3
  isplitl [P0]; · iexact P0
  iexact P2

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, #Hlev, Hcr, -, HG⟩
  ihave Hc := (creds (F := F) c) $$ Hcr
  imodintro
  unfold start G' know
  icases HG with ⟨%K, #HR, HL⟩
  isplitl
  · iexists K
    isplitr
    · isplitr; · iexact HR
      iexact Hlev
    iapply (tokens_intro (F := F) c)
    isplitl [HL]; · iexact HL
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start scratch tPts rPts
  iintro ⟨Hs, -, HR⟩
  isplitl [Hs]; · iexact Hs
  iexact HR

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch zeros tPts rPts
  iintro ⟨HR, HB, HZ⟩
  isplitl [HB]; · iexact HB
  isplitl [HZ]; · iexact HZ
  iexact HR

theorem stage_low (w : Fin cfg0.W) (s) : lvl (who (.dma ((cfg0.win w).sem s))) = 0 := by
  fin_cases w <;> fin_cases s <;> decide

theorem stage_waits (c : Dev nD) : (levAts L lv : sProp 𝕄) ⊢ Pipeline.cellsWaits cfgs (dats m ρ) () 0 c :=
  Pipeline.cellsWaits_intro cfgs (dats m ρ) () 0 c fun w s t => by
    have h (i : ℕ) (hi : i = 0 ∨ i = 7) : (levAts L lv : sProp 𝕄) ⊢ MayWait (c : Thread nD τ) (.dma ((cfg0.win w).sem s)) () (owe c i i i) :=
      mayWait_of c _ 0 i i i (le_of_eq (stage_low w s)) (fun _ => by decide) (fun _ => by decide) (fun _ => by decide)
    rcases t with ⟨_ | _, ht⟩
    · exact h 0 (.inl rfl)
    · have := h 7 (.inr rfl)
      rw [owe_done] at this
      exact this

/-! ## The run -/

set_option maxRecDepth 8000 in
/-- From any memory with zero counters, over any floats: every weakly fair execution of the program terminates, and every
    final state has each device's arrays as the kernel leaves them and every counter at zero. -/
theorem run_arrays : θ_run defs (onTc (τ := τ) (main (F := F))) (s₀ m ρ) (fun r =>
    (∀ c : Dev nD, ∀ w : Fin cfg0.W, r.2.mem ((cfg0.win w).arr.view.loc (c : Thread nD τ)) = (dats m ρ 0 c).arrAt w cfg0.N) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stage_waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- In the program's own names: every execution ends with each device's result as the kernel computes it from the devices'
    inputs, the inputs as they were, every counter at zero. -/
theorem run_main : θ_run defs (onTc (τ := τ) (main (F := F))) (s₀ m ρ) (fun r =>
    (∀ c : Dev nD, r.2.mem ((c : Thread nD τ).loc main_v1) = outOf m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨(h.1 c (2 : Fin 3)).trans (result m ρ c),
    (h.1 c (0 : Fin 3)).trans ((dats m ρ 0 c).arrAt_in (0 : Fin 3) rfl _), (h.1 c (1 : Fin 3)).trans ((dats m ρ 0 c).arrAt_in (1 : Fin 3) rfl _)⟩, h.2⟩)
    (run_arrays m ρ)

end Cert.AllToAll
-- ==== Proof.Frames.lean ====
/- The frames of the three programs: each runs, leaves its arguments as they were, and ends with every semaphore counter
   at zero. -/
module

public import proofs.«01_k».proof.Defs
public import proofs.«01_k».proof.Proof.Gen.Kernel
public import proofs.«01_k».proof.Proof.Gen.ReferenceIdeal.Frame
public import proofs.«01_k».proof.Proof.Run
public import Idealize.ShloMosaic.Lib.Pipeline.Regions

@[expose] public section

noncomputable section

namespace Cert.AllToAll

open Cert.KernelIdeal
open Idealize.ShloMosaic Idealize.ShloMosaic.TcCoe Idealize.SL.Sem

/-- The kernel's frame at one reading of its floats: from every memory and every random state it runs, no argument
    changes, and every semaphore counter is zero again. -/
def Framed (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0

/-- The kernel is framed however its floats are read. -/
theorem framed (F : FTy → Type) [FloatOps F] : Framed F := fun m ρ _ =>
  (θ_run defs _ _).mono (fun _ h => ⟨fun c => (h.1 c).2, h.2⟩) (run_main m ρ)

/-- The kernel as printed and the kernel read over the extended reals are the same text, so the frame of the one at the
    machine's own floats is the frame of the other there. -/
theorem framed_printed : Framed Bits = Cert.quiescent_Kernel := by chain_rfl

/-- The kernel as printed is framed. -/
theorem frame_kernel : Cert.quiescent_Kernel := framed_printed.mp (framed Bits)

/-- The kernel over the extended reals is framed. -/
theorem frame_kernelIdeal : Cert.quiescent_KernelIdeal := framed Ideal

/-- The reference over the extended reals is framed. -/
theorem frame_referenceIdeal : Cert.quiescent_ReferenceIdeal := fun m ρ _ => Cert.ReferenceIdeal.Gen.frame m ρ

end Cert.AllToAll

end
-- ==== Proof.Quantise.lean ====
/- Arithmetic of the extended reals used by the value claim: the greatest entry of an array, the step of the quantiser, why
   the quantiser's clip changes nothing, and the sums a product of matrices is cut into. -/
module

public import Idealize.ShloMosaic.PureOps.Ideal.Laws
public import Idealize.ShloMosaic.PureOps.Reduce
public import Idealize.ShloMosaic.Lib.Pipeline.Value
public import Mathlib.Algebra.BigOperators.Fin

@[expose] public section

noncomputable section

namespace Cert.AllToAll

open Idealize.ShloMosaic
open scoped BigOperators

/-! ## The constants -/

/-- The pattern of `-∞` is the least extended real. -/
theorem word_bot : (FloatOps.ofBits (F := Ideal) .f32 0xFF800000#32 : EReal) = ⊥ := by
  simp [Ideal.ofBits, Ideal.ieee]

/-- The pattern of the quantiser's greatest value is 448. -/
theorem word_448 : (FloatOps.ofBits (F := Ideal) .f32 0x43E00000#32 : EReal) = ((448 : ℝ) : EReal) := by
  simp [Ideal.ofBits, Ideal.ieee, -EReal.coe_mul]; norm_num

/-- The pattern of the quantiser's least value is -448. -/
theorem word_neg448 : (FloatOps.ofBits (F := Ideal) .f32 0xC3E00000#32 : EReal) = ((-448 : ℝ) : EReal) := by
  simp [Ideal.ofBits, Ideal.ieee, -EReal.coe_mul]; norm_num

/-! ## The greatest entry -/

/-- The greatest entry of an array, `-∞` if it has none. -/
abbrev top {s : Shape} (v : s.Idx → EReal) : EReal := Finset.univ.sup v

theorem le_top {s : Shape} (v : s.Idx → EReal) (i : s.Idx) : v i ≤ top v := Finset.le_sup (Finset.mem_univ i)

theorem top_le {s : Shape} (v : s.Idx → EReal) (b : EReal) (h : ∀ i, v i ≤ b) : top v ≤ b := Finset.sup_le fun i _ => h i

/-- A fold of `max` from `-∞` over every entry is the greatest entry. -/
theorem fold_top {s : Shape} (v : s.Idx → EReal) : (Finset.univ : Finset s.Idx).fold max ⊥ v = top v := rfl

/-- An array laid out at another shape has the same greatest entry. -/
theorem top_shapeCast {s t : Shape} (v : s.Idx → EReal) (h : s.ShapeCasts t) (h' : t.ShapeCasts s) :
    top (shapeCast t v h) = top v := by
  have one : ∀ {a b : Shape} (u : a.Idx → EReal) (k : a.ShapeCasts b), top (shapeCast b u k) ≤ top u :=
    fun u k => top_le _ _ fun i => le_top u _
  refine le_antisymm (one v h) ?_
  have := one (shapeCast t v h) h'
  rwa [shapeCast_shapeCast] at this

/-! ## The quantiser -/

/-- The step of the quantiser: the greatest magnitude over 448. -/
abbrev step (M : EReal) : EReal := Ideal.div M ((448 : ℝ) : EReal)

/-- For an entry between zero and the greatest magnitude, cutting its multiple of the step to `[-448, 448]` does not change
    the value that is read back. -/
theorem clip_idle (y M : EReal) (h0 : 0 ≤ y) (hM : y ≤ M) :
    min ((448 : ℝ) : EReal) (max ((-448 : ℝ) : EReal) (Ideal.div y (step M))) * step M = Ideal.div y (step M) * step M := by
  have h448 : ((448 : ℝ) : EReal) ≠ 0 := by simp
  have hs : step M = M * (((448 : ℝ)⁻¹ : ℝ) : EReal) := by
    show Ideal.div M _ = _
    unfold Ideal.div
    rw [if_neg h448, ← EReal.coe_inv]
  rcases eq_or_ne M 0 with hM0 | hM0
  · have : step M = 0 := by rw [hs, hM0, zero_mul]
    rw [this, mul_zero, mul_zero]
  rcases eq_or_ne M ⊤ with hMt | hMt
  · have ht : step M = ⊤ := by
      rw [hs, hMt]; exact EReal.top_mul_coe_of_pos (by norm_num)
    have hd : Ideal.div y (step M) = 0 := by
      unfold Ideal.div
      rw [ht, if_neg (by simp), EReal.inv_top, mul_zero]
    rw [hd]
    have e : min ((448 : ℝ) : EReal) (max ((-448 : ℝ) : EReal) 0) = 0 := by
      rw [max_eq_right (by norm_cast), min_eq_right (by norm_cast)]
    rw [e]
  · have hMp : 0 < M := lt_of_le_of_ne (h0.trans hM) (Ne.symm hM0)
    lift M to ℝ using ⟨hMt, (lt_of_lt_of_le (by simp) hMp.le).ne'⟩
    have hyt : y ≠ ⊤ := fun h => by rw [h] at hM; exact absurd hM (by simp)
    lift y to ℝ using ⟨hyt, (lt_of_lt_of_le (by simp) h0).ne'⟩
    have hMr : 0 < M := by exact_mod_cast hMp
    have hyr : 0 ≤ y := by exact_mod_cast h0
    have hyM : y ≤ M := by exact_mod_cast hM
    have hsr : step (M : EReal) = ((M * 448⁻¹ : ℝ) : EReal) := by rw [hs, ← EReal.coe_mul]
    have hp : 0 < M * 448⁻¹ := by positivity
    have hd : Ideal.div (y : EReal) (step (M : EReal)) = ((y * (M * 448⁻¹)⁻¹ : ℝ) : EReal) := by
      unfold Ideal.div
      rw [hsr, if_neg (by exact_mod_cast hp.ne'), ← EReal.coe_inv, ← EReal.coe_mul]
    have hq0 : 0 ≤ y * (M * 448⁻¹)⁻¹ := by positivity
    have hq1 : y * (M * 448⁻¹)⁻¹ ≤ 448 := by
      rw [mul_inv, inv_inv, ← mul_assoc]
      have : y * M⁻¹ ≤ 1 := by rw [← div_eq_mul_inv]; exact (div_le_one hMr).2 hyM
      nlinarith
    rw [hd, max_eq_right (by exact_mod_cast (by linarith : (-448 : ℝ) ≤ _)), min_eq_right (by exact_mod_cast hq1)]

/-! ## Sums -/

/-- A sum over 4096 positions is the sum over eight blocks of 512. -/
theorem sum_blocks (f : Fin 4096 → EReal) :
    ∑ k, f k = ∑ s : Fin 8, ∑ j : Fin 512, f ⟨512 * s.val + j.val, by have := s.isLt; have := j.isLt; omega⟩ := by
  have e := (Equiv.sum_comp (finProdFinEquiv (m := 8) (n := 512)) f).symm
  rw [Fintype.sum_prod_type] at e
  refine e.trans (Finset.sum_congr rfl fun s _ => Finset.sum_congr rfl fun j _ => congrArg f (Fin.ext ?_))
  show j.val + 512 * s.val = 512 * s.val + j.val
  omega

/-- A product of matrices cut at zero: entry (r, l) is the greater of `∑ k, x r k * w k l` and zero. -/
abbrev product (x : Fin 4096 → Fin 4096 → EReal) (w : Fin 4096 → Fin 2048 → EReal) (r : Fin 4096) (l : Fin 2048) : EReal :=
  max (∑ k : Fin 4096, x r k * w k l) 0

end Cert.AllToAll

end
-- ==== Proof.RefValue.lean ====
/- The reference's result over the extended reals, in closed form: entry (r, l) is the product's entry cut at zero, divided
   by the quantiser's step, and multiplied by it again. -/
module

public import proofs.«01_k».proof.Proof.Gen.ReferenceIdeal
public import proofs.«01_k».proof.Proof.Gen.ReferenceIdeal.Value
public import proofs.«01_k».proof.Proof.Quantise
public import Idealize.ShloMosaic.Lib.StackMember
public import Idealize.ShloMosaic.Lib.Tactic

@[expose] public section

noncomputable section

namespace Cert.AllToAll.Ref

open Cert.ReferenceIdeal Cert.ReferenceIdeal.Gen Cert.ReferenceIdeal.Value
open Idealize.ShloMosaic Idealize.ShloMosaic.TcCoe Idealize.SL.Sem
open Idealize.ShloMosaic.ValueIdx (ix2 eq_ix2)
open scoped BigOperators

variable (m : (ℓ : Loc nD τ sig) → Buf (Elt Ideal) ℓ) (ρ : Dev nD → PrngReg)

/-- The two arguments as matrices. -/
abbrev xOf (c : Dev nD) (r k : Fin 4096) : EReal :=
  (m ((c : Thread nD τ).loc main_arg0) : S4096x4096.Idx → EReal) (ix2 r k)
abbrev wOf (c : Dev nD) (k : Fin 4096) (l : Fin 2048) : EReal :=
  (m ((c : Thread nD τ).loc main_arg1) : S4096x2048.Idx → EReal) (ix2 k l)

/-- The product of the arguments, cut at zero. -/
def yOf (c : Dev nD) : S4096x2048.Idx → EReal := fun i => product (xOf m c) (wOf m c) (i 0) (i 1)

theorem yOf_nonneg (c : Dev nD) (i : S4096x2048.Idx) : 0 ≤ yOf m c i := le_max_right _ _

/-- The quantiser's step for that product. -/
def stepOf (c : Dev nD) : EReal := step (top (yOf m c))

/-- The result: the product quantised and read back. -/
def resultOf (c : Dev nD) : S4096x2048.Idx → EReal := fun i => Ideal.div (yOf m c i) (stepOf m c) * stepOf m c

/-! ## The host's operations -/

/-- The product the host computes, cut at zero, as it prints it. -/
def hostY (c : Dev nD) : FVec Ideal S4096x2048 .f32 :=
  maximumf (Host.dotGeneral (φ₁ := .f32) (φ₂ := .f32) dot_S4096x4096_S4096x2048_S4096x2048_1_0_0_1_n_n none
      (m ((c : Thread nD τ).loc main_arg0) : FVec Ideal S4096x4096 .f32) (m ((c : Thread nD τ).loc main_arg1) : FVec Ideal S4096x2048 .f32))
    (broadcastInDim S4096x2048 ![] bcast_S_S4096x2048 (constant S_ .f32 0x00000000#32))

/-- The step the host computes, as it prints it. -/
def hostStep (c : Dev nD) : FVec Ideal S1x1 .f32 :=
  shapeCast S1x1 (Host.divf (Host.reduce FloatOps.maximumf (Host.absf (hostY m c)) (constant S_ .f32 0xFF800000#32)
    reducesTo_S4096x2048_S_d0_1 h_S_) (constant S_ .f32 0x43E00000#32)) shapeCasts_S_S1x1

theorem V_y (c : Dev nD) : V m c main_v2 = hostY m c := by
  show StableHlo.after hostOps0 _ (Proc.devRef .tc main_v2) = _
  after_results
  rfl

theorem V_step (c : Dev nD) : V m c main_v6 = hostStep m c := by
  show StableHlo.after hostOps0 _ (Proc.devRef .tc main_v6) = _
  after_results
  unfold hostStep hostY
  rfl

theorem hostY_eq (c : Dev nD) : hostY m c = yOf m c := by
  funext i
  obtain ⟨a, b, rfl⟩ : ∃ (a : Fin 4096) (b : Fin 2048), i = ix2 a b := ⟨i 0, i 1, eq_ix2 i⟩
  show max (Host.dotGeneral (φ₁ := .f32) (φ₂ := .f32) (DotDims.plain 4096 4096 2048) none
      (m ((c : Thread nD τ).loc main_arg0) : FVec Ideal S4096x4096 .f32) (m ((c : Thread nD τ).loc main_arg1) : FVec Ideal S4096x2048 .f32) (ix2 a b))
    (FloatOps.ofBits (F := Ideal) .f32 0x00000000#32) = _
  rw [StackMember.dotGeneral_plain_apply, show (FloatOps.ofBits (F := Ideal) .f32 0x00000000#32 : EReal) = 0 from Ideal.ofBits_zero_f32]
  rfl

/-- A scalar divided by 448 and laid out as a one-entry matrix. -/
theorem scalar_step (A : FVec Ideal S_ .f32) (M : EReal) (h : ∀ j, A j = M) (i : S1x1.Idx) :
    shapeCast S1x1 (Host.divf A (constant S_ .f32 0x43E00000#32)) shapeCasts_S_S1x1 i = step M := by
  have e : ∀ j : S_.Idx, Host.divf A (constant S_ .f32 0x43E00000#32) j = step M := fun j => by
    show Ideal.div (A j) (FloatOps.ofBits (F := Ideal) .f32 0x43E00000#32) = _
    rw [h, word_448]
  exact e _

theorem hostStep_at (c : Dev nD) (i : S1x1.Idx) : hostStep m c i = stepOf m c := by
  have habs : (Host.absf (hostY m c) : FVec Ideal S4096x2048 .f32) = yOf m c := by
    rw [hostY_eq]
    funext i
    show max (yOf m c i) (-yOf m c i) = _
    exact max_eq_left ((EReal.neg_le_neg_iff.2 (yOf_nonneg m c i)).trans (by simpa using yOf_nonneg m c i))
  have hred : ∀ j : S_.Idx, Host.reduce (FloatOps.maximumf (F := Ideal) (φ := .f32)) (Host.absf (hostY m c)) (constant S_ .f32 0xFF800000#32)
      reducesTo_S4096x2048_S_d0_1 h_S_ j = top (yOf m c) := by
    intro j
    rw [Host.reduce_eq_fold, habs, Finset.filter_true_of_mem fun i _ => funext fun b => b.elim0]
    show (Finset.univ : Finset S4096x2048.Idx).fold max (FloatOps.ofBits (F := Ideal) .f32 0xFF800000#32) (yOf m c) = _
    rw [word_bot]
    rfl
  exact scalar_step _ _ hred i

/-! ## The region's result -/

theorem E2_at (P0 : Vec Ideal S4096x2048 .f32) (P1 : Vec Ideal S1x1 .f32) (M : EReal) (y : S4096x2048.Idx)
    (h1 : ∀ i, P1 i = step M) (h0 : (0 : EReal) ≤ P0 y) (hM : P0 y ≤ M) :
    E2 P0 P1 y = Ideal.div (P0 y) (step M) * step M := by
  have e0 : ix2_0 y = y := funext fun a => match a with | ⟨0, _⟩ => rfl | ⟨1, _⟩ => rfl
  show min (FloatOps.ofBits (F := Ideal) .f32 0x43E00000#32) (max (FloatOps.ofBits (F := Ideal) .f32 0xC3E00000#32)
    (Ideal.div (P0 (ix2_0 y)) (P1 (ix2_1 y)))) * P1 (ix2_2 y) = _
  rw [e0, h1, word_448, word_neg448]
  exact clip_idle _ _ h0 hM

/-- The one grid point. -/
abbrev t0 : Fin cfg0.N := ⟨0, by decide⟩

/-- Each window's one block is its whole array. -/
theorem emb0 (z : S4096x2048.Idx) : ((cfg0.win 0).blk t0).view.emb z = z := by
  funext a; apply Fin.ext
  match a with
  | ⟨0, _⟩ => show 0 * 4096 + 1 * (z 0).val = (z 0).val; omega
  | ⟨1, _⟩ => show 0 * 2048 + 1 * (z 1).val = (z 1).val; omega

theorem emb1 (z : S1x1.Idx) : ((cfg0.win 1).blk t0).view.emb z = z := by
  funext a; apply Fin.ext
  match a with
  | ⟨0, _⟩ => show 0 * 1 + 1 * (z 0).val = (z 0).val; omega
  | ⟨1, _⟩ => show 0 * 1 + 1 * (z 1).val = (z 1).val; omega

theorem emb2 (z : S4096x2048.Idx) : ((cfg0.win 2).blk t0).view.emb z = z := by
  funext a; apply Fin.ext
  match a with
  | ⟨0, _⟩ => show 0 * 4096 + 1 * (z 0).val = (z 0).val; omega
  | ⟨1, _⟩ => show 0 * 2048 + 1 * (z 1).val = (z 1).val; omega

/-- What the region reads through its first window is the product cut at zero. -/
theorem iblk_y (c : Dev nD) (z : S4096x2048.Idx) : (iblk m c 0 t0 : S4096x2048.Idx → EReal) z = yOf m c z := by
  show V m c main_v2 (((cfg0.win 0).blk t0).view.emb z) = _
  rw [emb0, V_y, hostY_eq]

/-- What it reads through its second is the step. -/
theorem iblk_step (c : Dev nD) (z : S1x1.Idx) : (iblk m c 1 t0 : S1x1.Idx → EReal) z = stepOf m c := by
  show V m c main_v6 (((cfg0.win 1).blk t0).view.emb z) = _
  rw [emb1, V_step, hostStep_at]

/-- The array the region leaves. -/
theorem arr_eq (c : Dev nD) : (dats m 0 c).arrAt 2 cfg0.N = resultOf m c := by
  funext y
  have b := congrFun (blocks2 m c t0 (flush0_2 t0)) y
  rw [flushed2] at b
  have b' : (dats m 0 c).arrAt 2 cfg0.N (((cfg0.win 2).blk t0).view.emb y) = out0_2 (iblk m c 0 t0) (iblk m c 1 t0) y := b
  rw [emb2] at b'
  refine b'.trans ?_
  unfold out0_2
  rw [canon2_eq]
  have l0 : ∀ z : S4096x2048.Idx, View.ld (iblk m c 0 t0) r0_1 z = yOf m c z := fun z => by
    refine Eq.trans ?_ (iblk_y m c z)
    show iblk m c 0 t0 (r0_1.idx z) = _
    refine congrArg _ (funext fun a => Fin.ext ?_)
    match a with
    | ⟨0, _⟩ => show 0 + 1 * (z 0).val = (z 0).val; omega
    | ⟨1, _⟩ => show 0 + 1 * (z 1).val = (z 1).val; omega
  have l1 : ∀ z : S1x1.Idx, View.ld (iblk m c 1 t0) r0_0 z = step (top (yOf m c)) := fun z =>
    (show View.ld (iblk m c 1 t0) r0_0 z = iblk m c 1 t0 (r0_0.idx z) from rfl).trans (iblk_step m c _)
  have e := E2_at (View.ld (iblk m c 0 t0) r0_1) (View.ld (iblk m c 1 t0) r0_0) (top (yOf m c)) y l1
    (by rw [l0]; exact yOf_nonneg m c y) (by rw [l0]; exact le_top _ y)
  rw [e, l0]
  rfl

/-- The reference runs, and ends with its closed form in its result and its arguments as they were. -/
theorem run_value : θ_run defs (onTc (τ := τ) (main (F := Ideal))) ⟨m, fun _ => 0, ρ⟩ fun r => ∀ c : Dev nD,
    r.2.mem ((c : Thread nD τ).loc main_v7) = resultOf m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr_eq m c), (h c).2⟩) (run_blocks m ρ)

end Cert.AllToAll.Ref

end
-- ==== Proof.KernelValue.lean ====
/- The kernel's result over the extended reals, in closed form: device `c` ends with rows `512 c …` of the whole product,
   cut at zero, quantised with the step of the whole product, and read back. -/
module

public import proofs.«01_k».proof.Proof.Cells
public import proofs.«01_k».proof.Proof.Quantise
public import Idealize.ShloMosaic.Lib.MatmulPlain
public import Idealize.ShloMosaic.Lib.Layout

@[expose] public section

noncomputable section

namespace Cert.AllToAll

open Cert.KernelIdeal Cert.KernelIdeal.Gen
open Idealize.ShloMosaic Idealize.ShloMosaic.TcCoe
open Idealize.ShloMosaic.ValueIdx (ix2 ix3 eq_ix2 eq_ix3)
open scoped BigOperators

/-! ## The body's pure operations at an entry -/

/-- A product of two blocks into zeros, entry by entry. -/
theorem matmul_at (x : FVec Ideal S512x512 .f32) (w : FVec Ideal S512x2048 .f32) (a : Fin 512) (b : Fin 2048) :
    matmul dot_S512x512_S512x2048_S512x2048_1_0_0_1_n_n none x w (constant S512x2048 .f32 0x00000000#32) (ix2 a b)
      = ∑ k : Fin 512, x (ix2 a k) * w (ix2 k b) := by
  refine (Ideal.matmul_plain_apply (M := 512) (K := 512) (N := 2048) none x w (constant S512x2048 .f32 0x00000000#32) a b).trans ?_
  rw [show (constant S512x2048 .f32 0x00000000#32 : FVec Ideal S512x2048 .f32) (ix2 a b) = (0 : EReal) from Ideal.ofBits_zero_f32, zero_add]

theorem pay2_at (x : Vec Ideal S512x512 .f32) (w : Vec Ideal S512x2048 .f32) (a : Fin 512) (b : Fin 2048) :
    k0_pay2 x w (ix2 a b) = ∑ k : Fin 512, (x (ix2 a k) : EReal) * w (ix2 k b) := by
  unfold k0_pay2
  rw [shapeCast_self, shapeCast_self]
  exact matmul_at x w a b

theorem pay4_at (A : Vec Ideal S512x2048 .f32) (x : Vec Ideal S1x512x512 .f32) (w : Vec Ideal S512x2048 .f32) (a : Fin 512) (b : Fin 2048) :
    k0_pay4 A x w (ix2 a b) = (A (ix2 a b) : EReal) + ∑ k : Fin 512, (x (ix3 0 a k) : EReal) * w (ix2 k b) := by
  unfold k0_pay4
  rw [shapeCast_self, shapeCast_self]
  refine congrArg (fun z : EReal => (A (ix2 a b) : EReal) + z) ((matmul_at _ w a b).trans (Finset.sum_congr rfl fun k _ => ?_))
  rw [shapeCast_dropUnit_apply (n := 2) ![512, 512] x shapeCasts_S1x512x512_S512x512 (ix2 a k)]
  refine congrArg (fun z : EReal => z * _) (congrArg x (funext fun d => ?_))
  match d with
  | ⟨0, _⟩ => rfl
  | ⟨1, _⟩ => rfl
  | ⟨2, _⟩ => rfl

theorem pay15_at (A : Vec Ideal S512x2048 .f32) (i : S512x2048.Idx) : k0_pay15 A i = max (A i : EReal) 0 := by
  unfold k0_pay15
  rw [shapeCast_self]
  show max (A i : EReal) (FloatOps.ofBits (F := Ideal) .f32 0x00000000#32) = _
  rw [show (FloatOps.ofBits (F := Ideal) .f32 0x00000000#32 : EReal) = 0 from Ideal.ofBits_zero_f32]

/-- Every entry of a device's tile is the greatest entry of its block cut at zero. -/
theorem pay16_at (A : Vec Ideal S512x2048 .f32) (i : S8x128.Idx) : k0_pay16 A i = top (s := S512x2048) (k0_pay15 A) := by
  have hr : ∀ j : S1.Idx, multiReduction (F := Ideal) (φ := .f32) .maximumf [1, 2] S1 (shapeCast S1x512x2048 (k0_pay15 A) shapeCasts_S512x2048_S1x512x2048)
      0xFF800000#32 reduces_S1x512x2048_S1 (.inl rfl) rfl j = top (s := S512x2048) (k0_pay15 A) := by
    intro j
    refine (multiReduction_maximumf_eq_fold _ _ _ _ _ j).trans ?_
    rw [Finset.filter_true_of_mem fun i _ => funext fun b => by
      match b with
      | ⟨0, h⟩ => exact Subsingleton.elim (α := Fin 1) _ _]
    show (Finset.univ : Finset S1x512x2048.Idx).fold max (FloatOps.ofBits (F := Ideal) .f32 0xFF800000#32) _ = _
    rw [word_bot]
    exact top_shapeCast (s := S512x2048) (t := S1x512x2048) _ _ (by decide)
  have h2 : ∀ (Q : FVec Ideal S1 .f32), (∀ j, Q j = top (s := S512x2048) (k0_pay15 A)) →
      broadcast S8x128 (extractAt ![0, 0, 0] (shapeCast S1x1x1 Q shapeCasts_S1_S1x1x1) inpos_S1x1x1_p0_0_0) i
        = top (s := S512x2048) (k0_pay15 A) := fun Q hQ => hQ _
  unfold k0_pay16
  rw [shapeCast_self]
  exact h2 _ hr

/-- The step the kernel computes from the eight tiles. -/
theorem pay18_at (R : Vec Ideal S8x8x128 .f32) : k0_pay18 R = step (top (s := S8x8x128) R) := by
  have hr : ∀ j : S1.Idx, multiReduction (F := Ideal) (φ := .f32) .maximumf [1, 2, 3] S1 (shapeCast S1x8x8x128 R shapeCasts_S8x8x128_S1x8x8x128)
      0xFF800000#32 reduces_S1x8x8x128_S1 (.inl rfl) rfl j = top (s := S8x8x128) R := by
    intro j
    refine (multiReduction_maximumf_eq_fold _ _ _ _ _ j).trans ?_
    rw [Finset.filter_true_of_mem fun i _ => funext fun b => by
      match b with
      | ⟨0, h⟩ => exact Subsingleton.elim (α := Fin 1) _ _]
    show (Finset.univ : Finset S1x8x8x128.Idx).fold max (FloatOps.ofBits (F := Ideal) .f32 0xFF800000#32) _ = _
    rw [word_bot]
    exact top_shapeCast (s := S8x8x128) (t := S1x8x8x128) _ _ (by decide)
  have h2 : ∀ (Q : FVec Ideal S1 .f32), (∀ j, Q j = top (s := S8x8x128) R) →
      Scalar.divf (extractAt ![0, 0, 0, 0] (shapeCast S1x1x1x1 Q shapeCasts_S1_S1x1x1x1) inpos_S1x1x1x1_p0_0_0_0)
        (Scalar.ofBits (F := Ideal) .f32 0x43E00000#32) = step (top (s := S8x8x128) R) := fun Q hQ => by
    have e : extractAt ![0, 0, 0, 0] (shapeCast S1x1x1x1 Q shapeCasts_S1_S1x1x1x1) inpos_S1x1x1x1_p0_0_0_0 = top (s := S8x8x128) R := hQ _
    rw [e]
    show Ideal.div _ (FloatOps.ofBits (F := Ideal) .f32 0x43E00000#32) = _
    rw [word_448]
  exact h2 _ hr

theorem pay1_at (t : EReal) (A : Vec Ideal S512x2048 .f32) (i : S512x2048.Idx) : k0_pay1 (F := Ideal) t A i = Ideal.div (A i) t * t := by
  unfold k0_pay1
  rw [shapeCast_self]
  rfl

/-! ## The product, block by block -/

variable (m : (ℓ : Loc nD τ sig) → Buf (Elt Ideal) ℓ)
variable (X : Fin 4096 → Fin 4096 → EReal) (W : Fin 4096 → Fin 2048 → EReal)

/-- Position `k` of block `d` of an axis of 4096. -/
abbrev place (d : Fin 8) (k : Fin 512) : Fin 4096 := ⟨512 * d.val + k.val, by have := d.isLt; have := k.isLt; omega⟩

/-- The devices hold the matrices `X`, cut by columns, and `W`, whole. -/
structure Holds : Prop where
  x : ∀ (d : Dev nD) (r : Fin 4096) (k : Fin 512), xOf m d (ix2 r k) = X r (place d k)
  w : ∀ (d : Dev nD) (k : Fin 4096) (l : Fin 2048), wOf m d (ix2 k l) = W k l

variable {m X W}

theorem xBlk_at (H : Holds m X W) (s c : Dev nD) (a k : Fin 512) : xBlk m s c (ix2 a k) = X (place c a) (place s k) := by
  refine Eq.trans ?_ (H.x s (place c a) k)
  refine congrArg (xOf m s) (funext fun d => Fin.ext ?_)
  match d with
  | ⟨0, _⟩ => show 512 * c.val + 1 * a.val = 512 * c.val + a.val; omega
  | ⟨1, _⟩ => show 0 + 1 * k.val = k.val; omega

theorem wBlk_at (H : Holds m X W) (c s : Dev nD) (k : Fin 512) (b : Fin 2048) : wBlk m c s (ix2 k b) = W (place s k) b := by
  refine Eq.trans ?_ (H.w c (place s k) b)
  refine congrArg (wOf m c) (funext fun d => Fin.ext ?_)
  match d with
  | ⟨0, _⟩ => show 512 * s.val + 1 * k.val = 512 * s.val + k.val; omega
  | ⟨1, _⟩ => show 0 + 1 * b.val = b.val; omega

theorem xSlot_at (H : Holds m X W) (c s : Dev nD) (a k : Fin 512) : xSlot m c s (ix3 0 a k) = X (place c a) (place s k) := by
  refine Eq.trans ?_ (xBlk_at H s c a k)
  have e : (xgR s).emb (ix3 0 a k) = ix3 (n0 := 8) s a k := by
    funext d; apply Fin.ext
    match d with
    | ⟨0, _⟩ => show s.val + 1 * 0 = s.val; omega
    | ⟨1, _⟩ => show 0 + 1 * a.val = a.val; omega
    | ⟨2, _⟩ => show 0 + 1 * k.val = k.val; omega
  show xgAll m c ((xgR s).emb (ix3 0 a k)) = _
  rw [e]
  rfl

/-- What device `s`'s columns give to entry (a, b) of device `c`'s rows. -/
abbrev part (X : Fin 4096 → Fin 4096 → EReal) (W : Fin 4096 → Fin 2048 → EReal) (c : Dev nD) (a : Fin 512) (b : Fin 2048) (s : Dev nD) : EReal :=
  ∑ k : Fin 512, X (place c a) (place s k) * W (place s k) b

theorem acc_zero_at (H : Holds m X W) (c : Dev nD) (a : Fin 512) (b : Fin 2048) :
    (acc m c 0 (ix2 a b) : EReal) = part X W c a b c := by
  show k0_pay2 (xBlk m c c) (wBlk m c c) (ix2 a b) = _
  rw [pay2_at]
  exact Finset.sum_congr rfl fun k _ => by rw [xBlk_at H, wBlk_at H]

theorem acc_succ_at (H : Holds m X W) (c : Dev nD) (a : Fin 512) (b : Fin 2048) (k : Fin 7) :
    (acc m c (k.val + 1) (ix2 a b) : EReal) = (acc m c k.val (ix2 a b) : EReal) + part X W c a b (rotB k c) := by
  rw [acc_succ, pay4_at]
  exact congrArg (fun z : EReal => (acc m c k.val (ix2 a b) : EReal) + z) (Finset.sum_congr rfl fun k _ => by rw [xSlot_at H, wBlk_at H])

/-- A sum over the devices is the term of one of them and the terms of the seven before it. -/
theorem sum_ring (c : Dev nD) (f : Dev nD → EReal) : ∑ s, f s = f c + ∑ k : Fin 7, f (rotB k c) := by
  rw [← Equiv.sum_comp (seen c) f, Fintype.sum_option, ← Equiv.sum_comp Fin.revPerm]
  refine congrArg (fun z : EReal => f c + z) (Finset.sum_congr rfl fun k _ => ?_)
  show f (rot (Fin.rev k) c) = _
  rw [rotB_eq_rot_rev]

/-- After the seven rounds the accumulator holds whole entries of the product. -/
theorem acc_all (H : Holds m X W) (c : Dev nD) (a : Fin 512) (b : Fin 2048) :
    (acc m c 7 (ix2 a b) : EReal) = ∑ k : Fin 4096, X (place c a) k * W k b := by
  rw [sum_blocks]
  refine Eq.trans ?_ (sum_ring c (part X W c a b)).symm
  rw [Fin.sum_univ_seven]
  have h0 := acc_zero_at H c a b
  have h1 : (acc m c 1 (ix2 a b) : EReal) = (acc m c 0 (ix2 a b) : EReal) + part X W c a b (rotB 0 c) := acc_succ_at H c a b 0
  have h2 : (acc m c 2 (ix2 a b) : EReal) = (acc m c 1 (ix2 a b) : EReal) + part X W c a b (rotB 1 c) := acc_succ_at H c a b 1
  have h3 : (acc m c 3 (ix2 a b) : EReal) = (acc m c 2 (ix2 a b) : EReal) + part X W c a b (rotB 2 c) := acc_succ_at H c a b 2
  have h4 : (acc m c 4 (ix2 a b) : EReal) = (acc m c 3 (ix2 a b) : EReal) + part X W c a b (rotB 3 c) := acc_succ_at H c a b 3
  have h5 : (acc m c 5 (ix2 a b) : EReal) = (acc m c 4 (ix2 a b) : EReal) + part X W c a b (rotB 4 c) := acc_succ_at H c a b 4
  have h6 : (acc m c 6 (ix2 a b) : EReal) = (acc m c 5 (ix2 a b) : EReal) + part X W c a b (rotB 5 c) := acc_succ_at H c a b 5
  have h7 : (acc m c 7 (ix2 a b) : EReal) = (acc m c 6 (ix2 a b) : EReal) + part X W c a b (rotB 6 c) := acc_succ_at H c a b 6
  rw [h7, h6, h5, h4, h3, h2, h1, h0]
  simp only [add_assoc]

/-! ## The result -/

/-- The whole product cut at zero, as an array. -/
abbrev whole (X : Fin 4096 → Fin 4096 → EReal) (W : Fin 4096 → Fin 2048 → EReal) : S4096x2048.Idx → EReal :=
  fun i => product X W (i 0) (i 1)

theorem relu_at (H : Holds m X W) (c : Dev nD) (a : Fin 512) (b : Fin 2048) :
    (reluOf m c (ix2 a b) : EReal) = whole X W (ix2 (place c a) b) := by
  show (k0_pay15 (acc m c 7) (ix2 a b) : EReal) = _
  rw [pay15_at, acc_all H]

/-- The greatest entry of the eight tiles is the greatest entry of the whole product cut at zero. -/
theorem top_tiles (H : Holds m X W) : top (s := S8x8x128) (rxAll m) = top (whole X W) := by
  have tile : ∀ i : S8x8x128.Idx, (rxAll m i : EReal) = top (s := S512x2048) (reluOf m (i 0)) := fun i => by
    unfold rxAll amaxOf reluOf
    exact pay16_at _ _
  refine le_antisymm (top_le _ _ fun i => ?_) (top_le _ _ fun i => ?_)
  · rw [tile]
    refine top_le _ _ fun j => ?_
    obtain ⟨a, b, rfl⟩ : ∃ (a : Fin 512) (b : Fin 2048), j = ix2 a b := ⟨j 0, j 1, eq_ix2 j⟩
    exact (relu_at H (i 0) a b).trans_le (le_top (whole X W) _)
  · obtain ⟨r, l, rfl⟩ : ∃ (r : Fin 4096) (l : Fin 2048), i = ix2 r l := ⟨i 0, i 1, eq_ix2 i⟩
    have hr := r.isLt
    let d : Dev nD := ⟨r.val / 512, by show r.val / 512 < 8; omega⟩
    let a : Fin 512 := ⟨r.val % 512, Nat.mod_lt _ (by norm_num)⟩
    have e : place d a = r := Fin.ext (by show 512 * (r.val / 512) + r.val % 512 = r.val; omega)
    refine le_trans ?_ (le_top (s := S8x8x128) (rxAll m) (ix3 (n0 := 8) d (0 : Fin 8) (0 : Fin 128)))
    refine (tile _).trans_ge ?_
    refine le_trans (le_of_eq ?_) (le_top (s := S512x2048) (reluOf m d) (ix2 a l))
    rw [relu_at H, e]

/-- Device `c`'s result: its rows of the whole product cut at zero, each divided by the step and multiplied by it again. -/
theorem out_at (H : Holds m X W) (c : Dev nD) (a : Fin 512) (b : Fin 2048) :
    (outOf m c (ix2 a b) : EReal)
      = Ideal.div (whole X W (ix2 (place c a) b)) (step (top (whole X W))) * step (top (whole X W)) := by
  unfold outOf
  rw [pay1_at, relu_at H, pay18_at, top_tiles H]

end Cert.AllToAll

end
-- ==== Proof.Agree.lean ====
/- The value claim: over the extended reals each device of the kernel ends with its rows of the reference's result. -/
module

public import proofs.«01_k».proof.Defs
public import proofs.«01_k».proof.Proof.Run
public import proofs.«01_k».proof.Proof.RefValue
public import proofs.«01_k».proof.Proof.KernelValue

@[expose] public section

noncomputable section

namespace Cert.AllToAll

open Idealize.ShloMosaic Idealize.ShloMosaic.TcCoe Idealize.SL.Sem
open Idealize.ShloMosaic.ValueIdx (ix2 eq_ix2)

/-- Entry (r, k) of block `d` of a matrix cut into eight blocks of columns. -/
theorem cols_at (v : (⟨2, ![4096, 4096]⟩ : Shape).Idx → EReal) (d : Fin 8) (r : Fin 4096) (k : Fin 512) :
    Layout.block ⟨2, ![4096, 512]⟩ ⟨2, ![4096, 4096]⟩ 1 8 d v (by decide) (ix2 r k) = v (ix2 r (place d k)) := by
  refine congrArg v (funext fun a => Fin.ext ?_)
  match a with
  | ⟨0, _⟩ => rfl
  | ⟨1, _⟩ => show d.val * 512 + k.val = 512 * d.val + k.val; omega

/-- Entry (a, b) of block `d` of a matrix cut into eight blocks of rows. -/
theorem rows_at (v : (⟨2, ![4096, 2048]⟩ : Shape).Idx → EReal) (d : Fin 8) (a : Fin 512) (b : Fin 2048) :
    Layout.block ⟨2, ![512, 2048]⟩ ⟨2, ![4096, 2048]⟩ 0 8 d v (by decide) (ix2 a b) = v (ix2 (place d a) b) := by
  refine congrArg v (funext fun e => Fin.ext ?_)
  match e with
  | ⟨0, _⟩ => show d.val * 512 + a.val = 512 * d.val + a.val; omega
  | ⟨1, _⟩ => rfl

/-- Where the kernel's devices hold the reference's arguments, the first cut into eight blocks of columns and the second
    whole, they hold the reference's two matrices. -/
theorem holds_of_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hx : ∀ d : Dev Cert.KernelIdeal.nD, xOf m d
      = Layout.block ⟨2, ![4096, 512]⟩ ⟨2, ![4096, 4096]⟩ 1 8 d
        (m' (((0 : Dev Cert.ReferenceIdeal.nD) : Thread Cert.ReferenceIdeal.nD Cert.ReferenceIdeal.τ).loc Cert.ReferenceIdeal.main_arg0)))
    (hw : ∀ d : Dev Cert.KernelIdeal.nD, wOf m d
      = m' (((0 : Dev Cert.ReferenceIdeal.nD) : Thread Cert.ReferenceIdeal.nD Cert.ReferenceIdeal.τ).loc Cert.ReferenceIdeal.main_arg1)) :
    Holds m (Ref.xOf m' 0) (Ref.wOf m' 0) where
  x d r k := by rw [hx d]; exact cols_at _ d r k
  w d k l := by rw [hw d]

/-- Device `c`'s result is rows `512 c …` of the reference's. -/
theorem out_block {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (H : Holds m (Ref.xOf m' 0) (Ref.wOf m' 0)) (c : Dev Cert.KernelIdeal.nD) :
    outOf m c = Layout.block ⟨2, ![512, 2048]⟩ ⟨2, ![4096, 2048]⟩ 0 8 c (Ref.resultOf m' 0) := by
  funext i
  obtain ⟨a, b, rfl⟩ : ∃ (a : Fin 512) (b : Fin 2048), i = ix2 a b := ⟨i 0, i 1, eq_ix2 i⟩
  exact (out_at H c a b).trans (rows_at (Ref.resultOf m' 0) c a b).symm

/-- The kernel and the reference end with the same values. -/
theorem agree : Cert.algebraic_KernelIdeal_ReferenceIdeal := fun m g m' g' _ hm =>
  have H := holds_of_agree m m' (fun d => (hm d).1) (fun d => (hm d).2)
  ⟨Ref.resultOf m' 0,
    (θ_run Cert.KernelIdeal.defs _ _).mono (fun _ h c => ⟨((h.1 c).1).trans (out_block H c), (h.1 c).2⟩) (run_main m g),
    (θ_run Cert.ReferenceIdeal.defs _ _).mono (fun _ h => h 0) (Ref.run_value m' g')⟩

end Cert.AllToAll

end
-- ==== Proof.lean ====
/- The proof of the certificate's claims: the three programs' frames, that the kernel read over the extended reals is the
   kernel as printed, and that over the extended reals the kernel's devices end with the blocks of the reference's result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Agree

@[expose] public section

noncomputable section

namespace Cert.Proof

/-- Every claim holds. -/
theorem claim : Cert.Claim :=
  ⟨Cert.Kernel.Gen.facts, Cert.KernelIdeal.Gen.facts, Cert.ReferenceIdeal.Gen.facts,
    Cert.AllToAll.frame_kernel, Cert.AllToAll.frame_kernelIdeal, Cert.AllToAll.frame_referenceIdeal, trivial, Cert.AllToAll.agree⟩

end Cert.Proof

end
